-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S2048x1024 : Shape := ⟨2, ![2048, 1024]⟩
abbrev S2048 : Shape := ⟨1, ![2048]⟩
abbrev S1000x2048 : Shape := ⟨2, ![1000, 2048]⟩
abbrev S1000 : Shape := ⟨1, ![1000]⟩
abbrev S1024x2048 : Shape := ⟨2, ![1024, 2048]⟩
abbrev S2048x1000 : Shape := ⟨2, ![2048, 1000]⟩
abbrev S1x2048 : Shape := ⟨2, ![1, 2048]⟩
abbrev S1x1000 : Shape := ⟨2, ![1, 1000]⟩
abbrev S256x2048 : Shape := ⟨2, ![256, 2048]⟩
abbrev S_ : Shape := ⟨0, ![]⟩
abbrev S24x2048 : Shape := ⟨2, ![24, 2048]⟩
abbrev S1280x2048 : Shape := ⟨2, ![1280, 2048]⟩
abbrev S1280x1 : Shape := ⟨2, ![1280, 1]⟩
abbrev S128x2048 : Shape := ⟨2, ![128, 2048]⟩
abbrev S128x1 : Shape := ⟨2, ![128, 1]⟩
abbrev S128x1000 : Shape := ⟨2, ![128, 1000]⟩
abbrev S128 : Shape := ⟨1, ![128]⟩
abbrev S1x1280 : Shape := ⟨2, ![1, 1280]⟩
abbrev S1280x1000 : Shape := ⟨2, ![1280, 1000]⟩
abbrev S128x1280 : Shape := ⟨2, ![128, 1280]⟩
abbrev S2048x256 : Shape := ⟨2, ![2048, 256]⟩
abbrev S2048x24 : Shape := ⟨2, ![2048, 24]⟩
abbrev S2048x1280 : Shape := ⟨2, ![2048, 1280]⟩
abbrev S256x1280 : Shape := ⟨2, ![256, 1280]⟩
abbrev S256x1000 : Shape := ⟨2, ![256, 1000]⟩

abbrev nBuf : Space → Nat
  | .hbm => 26
  | .vmem => 34
  | .smem => 0
  | _ => 0

abbrev bufTy : (tb : Table) → Fin (tcTables nBuf tb) → BufTy
  | .hbm, ⟨0, _⟩ => ⟨S256x1024, .f32⟩
  | .hbm, ⟨1, _⟩ => ⟨S2048x1024, .f32⟩
  | .hbm, ⟨2, _⟩ => ⟨S2048, .f32⟩
  | .hbm, ⟨3, _⟩ => ⟨S1000x2048, .f32⟩
  | .hbm, ⟨4, _⟩ => ⟨S1000, .f32⟩
  | .hbm, ⟨5, _⟩ => ⟨S1024x2048, .f32⟩
  | .hbm, ⟨6, _⟩ => ⟨S2048x1000, .f32⟩
  | .hbm, ⟨7, _⟩ => ⟨S1x2048, .f32⟩
  | .hbm, ⟨8, _⟩ => ⟨S1x1000, .f32⟩
  | .hbm, ⟨9, _⟩ => ⟨S256x2048, .f32⟩
  | .hbm, ⟨10, _⟩ => ⟨S_, .f32⟩
  | .hbm, ⟨11, _⟩ => ⟨S24x2048, .f32⟩
  | .hbm, ⟨12, _⟩ => ⟨S1280x2048, .f32⟩
  | .hbm, ⟨13, _⟩ => ⟨S1280x1, .f32⟩
  | .hbm, ⟨14, _⟩ => ⟨S1280x1, .i32⟩
  | .hbm, ⟨15, _⟩ => ⟨S1280x1, .f32⟩
  | .hbm, ⟨16, _⟩ => ⟨S1x1280, .f32⟩
  | .hbm, ⟨17, _⟩ => ⟨S1x1280, .i32⟩
  | .hbm, ⟨18, _⟩ => ⟨S1280x1000, .f32⟩
  | .hbm, ⟨19, _⟩ => ⟨S2048x256, .f32⟩
  | .hbm, ⟨20, _⟩ => ⟨S_, .f32⟩
  | .hbm, ⟨21, _⟩ => ⟨S2048x24, .f32⟩
  | .hbm, ⟨22, _⟩ => ⟨S2048x1280, .f32⟩
  | .hbm, ⟨23, _⟩ => ⟨S2048x1000, .f32⟩
  | .hbm, ⟨24, _⟩ => ⟨S1x1000, .f32⟩
  | .hbm, ⟨25, _⟩ => ⟨S256x1000, .f32⟩
  | .local _ .vmem, ⟨0, _⟩ => ⟨S256x1024, .f32⟩
  | .local _ .vmem, ⟨1, _⟩ => ⟨S1024x2048, .f32⟩
  | .local _ .vmem, ⟨2, _⟩ => ⟨S1x2048, .f32⟩
  | .local _ .vmem, ⟨3, _⟩ => ⟨S256x2048, .f32⟩
  | .local _ .vmem, ⟨4, _⟩ => ⟨S128x2048, .f32⟩
  | .local _ .vmem, ⟨5, _⟩ => ⟨S128x2048, .f32⟩
  | .local _ .vmem, ⟨6, _⟩ => ⟨S2048x1000, .f32⟩
  | .local _ .vmem, ⟨7, _⟩ => ⟨S1x1000, .f32⟩
  | .local _ .vmem, ⟨8, _⟩ => ⟨S128x1, .f32⟩
  | .local _ .vmem, ⟨9, _⟩ => ⟨S128x1, .f32⟩
  | .local _ .vmem, ⟨10, _⟩ => ⟨S128x1, .i32⟩
  | .local _ .vmem, ⟨11, _⟩ => ⟨S128x1, .i32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S128x1, .f32⟩
  | .local _ .vmem, ⟨16, _⟩ => ⟨S128x1, .i32⟩
  | .local _ .vmem, ⟨17, _⟩ => ⟨S128x1, .i32⟩
  | .local _ .vmem, ⟨18, _⟩ => ⟨S128x1, .f32⟩
  | .local _ .vmem, ⟨19, _⟩ => ⟨S128x1, .f32⟩
  | .local _ .vmem, ⟨20, _⟩ => ⟨S1x1280, .f32⟩
  | .local _ .vmem, ⟨21, _⟩ => ⟨S1x1280, .i32⟩
  | .local _ .vmem, ⟨22, _⟩ => ⟨S128x1000, .f32⟩
  | .local _ .vmem, ⟨23, _⟩ => ⟨S128x1000, .f32⟩
  | .local _ .vmem, ⟨24, _⟩ => ⟨S256x1280, .f32⟩
  | .local _ .vmem, ⟨25, _⟩ => ⟨S256x1280, .f32⟩
  | .local _ .vmem, ⟨26, _⟩ => ⟨S1280x1000, .f32⟩
  | .local _ .vmem, ⟨27, _⟩ => ⟨S256x1000, .f32⟩
  | .local _ .vmem, ⟨28, _⟩ => ⟨S256x1000, .f32⟩
  | .local _ .vmem, ⟨29, _⟩ => ⟨S1x1000, .f32⟩
  | .local _ .vmem, ⟨30, _⟩ => ⟨S256x2048, .f32⟩
  | .local _ .vmem, ⟨31, _⟩ => ⟨S2048x1000, .f32⟩
  | .local _ .vmem, ⟨32, _⟩ => ⟨S1x1000, .f32⟩
  | .local _ .vmem, ⟨33, _⟩ => ⟨S256x1000, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v15 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc4_sem0_0 : DmaSem sig := 30
abbrev cc4_sem1_0 : DmaSem sig := 31
abbrev cc4_sem2_0 : DmaSem sig := 32
abbrev cc4_sem3_0 : DmaSem sig := 33

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1280 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1280 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S128x1000 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x1280 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1280x1000 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x1000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1000 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := .none

abbrev stage4_0 : Fin 1 → Memref sig .tc .vmem S256x2048 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S2048x1000 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x1000 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S256x1000 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
-- ==== ReferenceIdeal.lean ====
abbrev S256x1024 : Shape := ⟨2, ![256, 1024]⟩
abbrev S2048x1024 : Shape := ⟨2, ![2048, 1024]⟩
abbrev S2048 : Shape := ⟨1, ![2048]⟩
abbrev S1000x2048 : Shape := ⟨2, ![1000, 2048]⟩
abbrev S1000 : Shape := ⟨1, ![1000]⟩
abbrev S2048x1000 : Shape := ⟨2, ![2048, 1000]⟩
abbrev S1000x1000 : Shape := ⟨2, ![1000, 1000]⟩
abbrev S1x1000 : Shape := ⟨2, ![1, 1000]⟩
abbrev S_ : Shape := ⟨0, ![]⟩
abbrev S1000x1 : Shape := ⟨2, ![1000, 1]⟩
abbrev S1024x2048 : Shape := ⟨2, ![1024, 2048]⟩
abbrev S256x2048 : Shape := ⟨2, ![256, 2048]⟩
abbrev S1x2048 : Shape := ⟨2, ![1, 2048]⟩
abbrev S256x1000 : Shape := ⟨2, ![256, 1000]⟩
abbrev S256 : Shape := ⟨1, ![256]⟩
abbrev S256x1 : Shape := ⟨2, ![256, 1]⟩
abbrev S1256x2048 : Shape := ⟨2, ![1256, 2048]⟩
abbrev S1256x1000 : Shape := ⟨2, ![1256, 1000]⟩
abbrev S1256 : Shape := ⟨1, ![1256]⟩
abbrev S1256x1 : Shape := ⟨2, ![1256, 1]⟩
abbrev S1x1256 : Shape := ⟨2, ![1, 1256]⟩
abbrev S1256x1256 : Shape := ⟨2, ![1256, 1256]⟩
abbrev S2048x1256 : Shape := ⟨2, ![2048, 1256]⟩

abbrev nBuf : Space → Nat
  | .hbm => 147
  | .vmem => 0
  | .smem => 0
  | _ => 0

abbrev hbmTy0_0 (i : Nat) : BufTy := match i % 128 with
  | 0 => ⟨S256x1024, .f32⟩
  | 1 => ⟨S2048x1024, .f32⟩
  | 2 => ⟨S2048, .f32⟩
  | 3 => ⟨S1000x2048, .f32⟩
  | 4 => ⟨S1000, .f32⟩
  | 5 => ⟨S2048x1000, .f32⟩
  | 6 => ⟨S1000x1000, .f32⟩
  | 7 => ⟨S1x1000, .f32⟩
  | 8 => ⟨S1000x1000, .f32⟩
  | 9 => ⟨S1000x1000, .f32⟩
  | 10 => ⟨S_, .f32⟩
  | 11 => ⟨S1000, .f32⟩
  | 12 => ⟨S_, .f32⟩
  | 13 => ⟨S1000, .f32⟩
  | 14 => ⟨S1000, .f32⟩
  | 15 => ⟨S1000x1, .f32⟩
  | 16 => ⟨S1000x1000, .f32⟩
  | 17 => ⟨S1000x1000, .f32⟩
  | 18 => ⟨S1000x1000, .f32⟩
  | 19 => ⟨S_, .f32⟩
  | 20 => ⟨S1000, .f32⟩
  | 21 => ⟨S1000x1, .f32⟩
  | 22 => ⟨S1000x1, .f32⟩
  | 23 => ⟨S1000x1000, .f32⟩
  | 24 => ⟨S1000x1000, .f32⟩
  | 25 => ⟨S1000x1000, .f32⟩
  | 26 => ⟨S1000x1000, .f32⟩
  | 27 => ⟨S_, .f32⟩
  | 28 => ⟨S1000, .f32⟩
  | 29 => ⟨S1000, .f32⟩
  | 30 => ⟨S1000x1000, .i32⟩
  | 31 => ⟨S_, .f32⟩
  | 32 => ⟨S_, .i32⟩
  | 33 => ⟨S1000, .f32⟩
  | 34 => ⟨S1000, .i32⟩
  | 35 => ⟨S1000x1, .i32⟩
  | 36 => ⟨S1x1000, .i32⟩
  | 37 => ⟨S1000x1000, .i32⟩
  | 38 => ⟨S1000x1000, .i32⟩
  | 39 => ⟨S1000x1000, .i1⟩
  | 40 => ⟨S1000x1000, .f32⟩
  | 41 => ⟨S1024x2048, .f32⟩
  | 42 => ⟨S256x2048, .f32⟩
  | 43 => ⟨S1x2048, .f32⟩
  | 44 => ⟨S256x2048, .f32⟩
  | 45 => ⟨S256x2048, .f32⟩
  | 46 => ⟨S2048x1000, .f32⟩
  | 47 => ⟨S256x1000, .f32⟩
  | 48 => ⟨S1x1000, .f32⟩
  | 49 => ⟨S256x1000, .f32⟩
  | 50 => ⟨S256x1000, .f32⟩
  | 51 => ⟨S256x1000, .i32⟩
  | 52 => ⟨S_, .f32⟩
  | 53 => ⟨S_, .i32⟩
  | 54 => ⟨S256, .f32⟩
  | 55 => ⟨S256, .i32⟩
  | 56 => ⟨S256x1, .i32⟩
  | 57 => ⟨S1x1000, .i32⟩
  | 58 => ⟨S256x1000, .i32⟩
  | 59 => ⟨S256x1000, .i32⟩
  | 60 => ⟨S256x1000, .i1⟩
  | 61 => ⟨S256x1000, .f32⟩
  | 62 => ⟨S_, .f32⟩
  | 63 => ⟨S256, .f32⟩
  | 64 => ⟨S_, .f32⟩
  | 65 => ⟨S256, .f32⟩
  | 66 => ⟨S256, .f32⟩
  | 67 => ⟨S256x1, .f32⟩
  | 68 => ⟨S256x1000, .f32⟩
  | 69 => ⟨S256x1000, .f32⟩
  | 70 => ⟨S256x1000, .f32⟩
  | 71 => ⟨S_, .f32⟩
  | 72 => ⟨S256, .f32⟩
  | 73 => ⟨S256x1, .f32⟩
  | 74 => ⟨S256x1, .f32⟩
  | 75 => ⟨S256x1000, .f32⟩
  | 76 => ⟨S256x1000, .f32⟩
  | 77 => ⟨S256x1000, .f32⟩
  | 78 => ⟨S256x1000, .f32⟩
  | 79 => ⟨S_, .f32⟩
  | 80 => ⟨S256, .f32⟩
  | 81 => ⟨S256, .f32⟩
  | 82 => ⟨S1256x2048, .f32⟩
  | 83 => ⟨S1256x1000, .f32⟩
  | 84 => ⟨S1256, .f32⟩
  | 85 => ⟨S1256x1000, .i32⟩
  | 86 => ⟨S_, .f32⟩
  | 87 => ⟨S_, .i32⟩
  | 88 => ⟨S1256, .f32⟩
  | 89 => ⟨S1256, .i32⟩
  | 90 => ⟨S1256, .i32⟩
  | 91 => ⟨S1256x1, .i32⟩
  | 92 => ⟨S1x1256, .i32⟩
  | 93 => ⟨S1256x1256, .i32⟩
  | 94 => ⟨S1256x1256, .i32⟩
  | 95 => ⟨S1256x1256, .i1⟩
  | 96 => ⟨S1x1256, .f32⟩
  | 97 => ⟨S1256x1, .f32⟩
  | 98 => ⟨S1256x1256, .f32⟩
  | 99 => ⟨S1256x1256, .f32⟩
  | 100 => ⟨S1256x1256, .i1⟩
  | 101 => ⟨S1x1256, .f32⟩
  | 102 => ⟨S1256x1, .f32⟩
  | 103 => ⟨S1256x1256, .f32⟩
  | 104 => ⟨S1256x1256, .f32⟩
  | 105 => ⟨S1256x1256, .i1⟩
  | 106 => ⟨S1x1256, .i32⟩
  | 107 => ⟨S1256x1, .i32⟩
  | 108 => ⟨S1256x1256, .i32⟩
  | 109 => ⟨S1256x1256, .i32⟩
  | 110 => ⟨S1256x1256, .i1⟩
  | 111 => ⟨S1256x1256, .i1⟩
  | 112 => ⟨S1256x1256, .i1⟩
  | 113 => ⟨S1256x1256, .i1⟩
  | 114 => ⟨S1256x1256, .i32⟩
  | 115 => ⟨S_, .i32⟩
  | 116 => ⟨S1256, .i32⟩
  | 117 => ⟨S_, .i32⟩
  | 118 => ⟨S1256, .i32⟩
  | 119 => ⟨S1256, .i1⟩
  | 120 => ⟨S1256, .f32⟩
  | 121 => ⟨S1256x2048, .f32⟩
  | 122 => ⟨S_, .f32⟩
  | 123 => ⟨S1256, .f32⟩
  | 124 => ⟨S1256x1, .f32⟩
  | 125 => ⟨S_, .f32⟩
  | 126 => ⟨S1256x1, .f32⟩
  | 127 => ⟨S1256x1, .f32⟩
  | _ => ⟨S256x1024, .f32⟩

abbrev hbmTy0_1 (i : Nat) : BufTy := match i % 128 with
  | 0 => ⟨S1256x1, .f32⟩
  | 1 => ⟨S1256x2048, .f32⟩
  | 2 => ⟨S1256x2048, .f32⟩
  | 3 => ⟨S2048x1256, .f32⟩
  | 4 => ⟨S1256x1, .f32⟩
  | 5 => ⟨S1256x1000, .f32⟩
  | 6 => ⟨S1256x1000, .f32⟩
  | 7 => ⟨S2048x1000, .f32⟩
  | 8 => ⟨S2048x1000, .f32⟩
  | 9 => ⟨S_, .f32⟩
  | 10 => ⟨S1000, .f32⟩
  | 11 => ⟨S1x1000, .f32⟩
  | 12 => ⟨S_, .f32⟩
  | 13 => ⟨S1x1000, .f32⟩
  | 14 => ⟨S1x1000, .f32⟩
  | 15 => ⟨S1x1000, .f32⟩
  | 16 => ⟨S2048x1000, .f32⟩
  | 17 => ⟨S2048x1000, .f32⟩
  | 18 => ⟨S256x1000, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_call1_v0 : Ref sig .tc := ⟨.hbm, 30, rfl⟩
abbrev main_call1_cst : Ref sig .tc := ⟨.hbm, 31, rfl⟩
abbrev main_call1_c : Ref sig .tc := ⟨.hbm, 32, rfl⟩
abbrev main_call1_v1_0 : Ref sig .tc := ⟨.hbm, 33, rfl⟩
abbrev main_v10 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_call3_v0 : Ref sig .tc := ⟨.hbm, 51, rfl⟩
abbrev main_call3_cst : Ref sig .tc := ⟨.hbm, 52, rfl⟩
abbrev main_call3_c : Ref sig .tc := ⟨.hbm, 53, rfl⟩
abbrev main_call3_v1_0 : Ref sig .tc := ⟨.hbm, 54, rfl⟩
abbrev main_v22 : Ref sig .tc := ⟨.hbm, 55, rfl⟩
abbrev main_call4_v0 : Ref sig .tc := ⟨.hbm, 56, rfl⟩
abbrev main_call4_v1 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_v23 : Ref sig .tc := ⟨.hbm, 61, rfl⟩
abbrev main_call5_cst : Ref sig .tc := ⟨.hbm, 62, rfl⟩
abbrev main_call5_v0 : Ref sig .tc := ⟨.hbm, 63, rfl⟩
abbrev main_call5_cst_0 : Ref sig .tc := ⟨.hbm, 64, rfl⟩
abbrev main_call5_v1 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_call5_v5 : Ref sig .tc := ⟨.hbm, 69, rfl⟩
abbrev main_call5_v6 : Ref sig .tc := ⟨.hbm, 70, rfl⟩
abbrev main_call5_cst_1 : Ref sig .tc := ⟨.hbm, 71, rfl⟩
abbrev main_call5_v7 : Ref sig .tc := ⟨.hbm, 72, rfl⟩
abbrev main_call5_v8 : Ref sig .tc := ⟨.hbm, 73, rfl⟩
abbrev main_call5_v9 : Ref sig .tc := ⟨.hbm, 74, rfl⟩
abbrev main_call5_v10 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_cst_0 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_call6_v0 : Ref sig .tc := ⟨.hbm, 85, rfl⟩
abbrev main_call6_cst : Ref sig .tc := ⟨.hbm, 86, rfl⟩
abbrev main_call6_c : Ref sig .tc := ⟨.hbm, 87, rfl⟩
abbrev main_call6_v1_0 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_c : Ref sig .tc := ⟨.hbm, 115, rfl⟩
abbrev main_v58 : Ref sig .tc := ⟨.hbm, 116, rfl⟩
abbrev main_c_1 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_cst_2 : Ref sig .tc := ⟨.hbm, 122, rfl⟩
abbrev main_v63 : Ref sig .tc := ⟨.hbm, 123, rfl⟩
abbrev main_v64 : Ref sig .tc := ⟨.hbm, 124, rfl⟩
abbrev main_cst_3 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_cst_4 : Ref sig .tc := ⟨.hbm, 137, rfl⟩
abbrev main_v76 : Ref sig .tc := ⟨.hbm, 138, rfl⟩
abbrev main_v77 : Ref sig .tc := ⟨.hbm, 139, rfl⟩
abbrev main_cst_5 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩

abbrev nD : Nat := 1
abbrev τ : Topo := Topo.v7x

variable {F : FTy → Type} [FloatOps F]
-- ==== Proof.RefFns.lean ====
module

public import proofs.«01_k».proof.ReferenceIdeal
public import proofs.«01_k».proof.Proof.Gen.ReferenceIdeal

/-! The reference, stage by stage, as functions of arrays. -/

@[expose] public section

noncomputable section

namespace Cert.Proof.RefFns

open Cert.ReferenceIdeal Cert.ReferenceIdeal.Gen
open Idealize.ShloMosaic

variable {F : FTy → Type} [FloatOps F]

/-- The scores of the 1000 class rows. -/
def logitsW (arg3 : FVec F S1000x2048 .f32) (arg4 : FVec F S1000 .f32) : FVec F S1000x1000 .f32 :=
  let v0 := (transpose S2048x1000 [1, 0] · transposes_S1000x2048_S2048x1000_1_0) arg3
  let v1 := (fun l r => Host.dotGeneral dot_S1000x2048_S2048x1000_S1000x1000_1_0_0_1_n_n none l r) arg3 v0
  let v2 := broadcastInDim S1x1000 ![1] bcast_S1000_S1x1000_1 arg4
  let v3 := broadcastInDim S1000x1000 ![0, 1] bcast_S1x1000_S1000x1000_0_1 v2
  addf v1 v3

/-- The entropy of each class row, from its scores. -/
def entW (v4 : FVec F S1000x1000 .f32) : FVec F S1000 .f32 :=
  let call0_cst := (constant S_ .f32 0xFF800000#32)
  let call0_v0 := (fun x v => Host.reduce FloatOps.maximumf x v reducesTo_S1000x1000_S1000_d1 h_S_) v4 call0_cst
  let call0_cst_0 := (constant S_ .f32 0xFF800000#32)
  let call0_v1 := (broadcastInDim S1000 ![] bcast_S_S1000) call0_cst_0
  let call0_v2 := maximumf call0_v1 call0_v0
  let call0_v3 := (broadcastInDim S1000x1 ![0] bcast_S1000_S1000x1_0) call0_v2
  let call0_v4 := (broadcastInDim S1000x1000 ![0, 1] bcast_S1000x1_S1000x1000_0_1) call0_v3
  let call0_v5 := subf v4 call0_v4
  let call0_v6 := Host.exp call0_v5
  let call0_cst_1 := (constant S_ .f32 0x00000000#32)
  let call0_v7 := (fun x v => Host.reduceAdd x v reducesTo_S1000x1000_S1000_d1 h_S_) call0_v6 call0_cst_1
  let call0_v8 := (broadcastInDim S1000x1 ![0] bcast_S1000_S1000x1_0) call0_v7
  let call0_v9 := Host.log call0_v8
  let call0_v10 := (broadcastInDim S1000x1000 ![0, 1] bcast_S1000x1_S1000x1000_0_1) call0_v9
  let v5 := subf call0_v5 call0_v10
  let v6 := Host.exp v5
  let v7 := mulf v6 v5
  let cst := (constant S_ .f32 0x00000000#32)
  let v8 := (fun x v => Host.reduceAdd x v reducesTo_S1000x1000_S1000_d1 h_S_) v7 cst
  Host.negf v8

/-- The one-hot label of each class row, from its scores. -/
def labW (v4 : FVec F S1000x1000 .f32) : FVec F S1000x1000 .f32 :=
  let call1_v0 := (iotaInDim S1000x1000 32 1)
  let call1_cst := (constant S_ .f32 0xFF800000#32)
  let call1_c := (constantI S_ 32 0#32)
  let v10 := (fun x y u v j => (Host.argReduce reducer_argmax_f32_i32 x y u v reducesTo_S1000x1000_S1000_d1 h_S_ j).2) v4 call1_v0 call1_cst call1_c
  let call2_v0 := (broadcastInDim S1000x1 ![0] bcast_S1000_S1000x1_0) v10
  let call2_v1 := (iotaInDim S1x1000 32 1)
  let call2_v2 := (broadcastInDim S1000x1000 ![0, 1] bcast_S1000x1_S1000x1000_0_1) call2_v0
  let call2_v3 := (broadcastInDim S1000x1000 ![0, 1] bcast_S1x1000_S1000x1000_0_1) call2_v1
  let call2_v4 := (cmpi .eq) call2_v2 call2_v3
  (uitofp .f32) call2_v4

/-- The features of the 256 inputs. -/
def feat (arg1 : FVec F S2048x1024 .f32) (arg0 : FVec F S256x1024 .f32) (arg2 : FVec F S2048 .f32) : FVec F S256x2048 .f32 :=
  let v12 := (transpose S1024x2048 [1, 0] · transposes_S2048x1024_S1024x2048_1_0) arg1
  let v13 := (fun l r => Host.dotGeneral dot_S256x1024_S1024x2048_S256x2048_1_0_0_1_n_n none l r) arg0 v12
  let v14 := broadcastInDim S1x2048 ![1] bcast_S2048_S1x2048_1 arg2
  let v15 := broadcastInDim S256x2048 ![0, 1] bcast_S1x2048_S256x2048_0_1 v14
  addf v13 v15

/-- The scores of the 256 inputs. -/
def logitsZ (arg3 : FVec F S1000x2048 .f32) (v16 : FVec F S256x2048 .f32) (arg4 : FVec F S1000 .f32) : FVec F S256x1000 .f32 :=
  let v17 := (transpose S2048x1000 [1, 0] · transposes_S1000x2048_S2048x1000_1_0) arg3
  let v18 := (fun l r => Host.dotGeneral dot_S256x2048_S2048x1000_S256x1000_1_0_0_1_n_n none l r) v16 v17
  let v19 := broadcastInDim S1x1000 ![1] bcast_S1000_S1x1000_1 arg4
  let v20 := broadcastInDim S256x1000 ![0, 1] bcast_S1x1000_S256x1000_0_1 v19
  addf v18 v20

/-- The one-hot label of each input, from its scores. -/
def labZ (v21 : FVec F S256x1000 .f32) : FVec F S256x1000 .f32 :=
  let call3_v0 := (iotaInDim S256x1000 32 1)
  let call3_cst := (constant S_ .f32 0xFF800000#32)
  let call3_c := (constantI S_ 32 0#32)
  let v22 := (fun x y u v j => (Host.argReduce reducer_argmax_f32_i32 x y u v reducesTo_S256x1000_S256_d1 h_S_ j).2) v21 call3_v0 call3_cst call3_c
  let call4_v0 := (broadcastInDim S256x1 ![0] bcast_S256_S256x1_0) v22
  let call4_v1 := (iotaInDim S1x1000 32 1)
  let call4_v2 := (broadcastInDim S256x1000 ![0, 1] bcast_S256x1_S256x1000_0_1) call4_v0
  let call4_v3 := (broadcastInDim S256x1000 ![0, 1] bcast_S1x1000_S256x1000_0_1) call4_v1
  let call4_v4 := (cmpi .eq) call4_v2 call4_v3
  (uitofp .f32) call4_v4

/-- The entropy of each input, from its scores. -/
def entZ (v21 : FVec F S256x1000 .f32) : FVec F S256 .f32 :=
  let call5_cst := (constant S_ .f32 0xFF800000#32)
  let call5_v0 := (fun x v => Host.reduce FloatOps.maximumf x v reducesTo_S256x1000_S256_d1 h_S_) v21 call5_cst
  let call5_cst_0 := (constant S_ .f32 0xFF800000#32)
  let call5_v1 := (broadcastInDim S256 ![] bcast_S_S256) call5_cst_0
  let call5_v2 := maximumf call5_v1 call5_v0
  let call5_v3 := (broadcastInDim S256x1 ![0] bcast_S256_S256x1_0) call5_v2
  let call5_v4 := (broadcastInDim S256x1000 ![0, 1] bcast_S256x1_S256x1000_0_1) call5_v3
  let call5_v5 := subf v21 call5_v4
  let call5_v6 := Host.exp call5_v5
  let call5_cst_1 := (constant S_ .f32 0x00000000#32)
  let call5_v7 := (fun x v => Host.reduceAdd x v reducesTo_S256x1000_S256_d1 h_S_) call5_v6 call5_cst_1
  let call5_v8 := (broadcastInDim S256x1 ![0] bcast_S256_S256x1_0) call5_v7
  let call5_v9 := Host.log call5_v8
  let call5_v10 := (broadcastInDim S256x1000 ![0, 1] bcast_S256x1_S256x1000_0_1) call5_v9
  let v24 := subf call5_v5 call5_v10
  let v25 := Host.exp v24
  let v26 := mulf v25 v24
  let cst_0 := (constant S_ .f32 0x00000000#32)
  let v27 := (fun x v => Host.reduceAdd x v reducesTo_S256x1000_S256_d1 h_S_) v26 cst_0
  Host.negf v27

/-- All 1256 supports, one under another. -/
def sup (arg3 : FVec F S1000x2048 .f32) (v16 : FVec F S256x2048 .f32) : FVec F S1256x2048 .f32 :=
  (fun a b => concatenate S1256x2048 0 [⟨S1000x2048, a⟩, ⟨S256x2048, b⟩] concatenates_S1000x2048_S256x2048_S1256x2048_d0) arg3 v16

/-- All 1256 labels. -/
def lab (v11 : FVec F S1000x1000 .f32) (v23 : FVec F S256x1000 .f32) : FVec F S1256x1000 .f32 :=
  (fun a b => concatenate S1256x1000 0 [⟨S1000x1000, a⟩, ⟨S256x1000, b⟩] concatenates_S1000x1000_S256x1000_S1256x1000_d0) v11 v23

/-- All 1256 entropies. -/
def ent (v9 : FVec F S1000 .f32) (v28 : FVec F S256 .f32) : FVec F S1256 .f32 :=
  (fun a b => concatenate S1256 0 [⟨S1000, a⟩, ⟨S256, b⟩] concatenates_S1000_S256_S1256_d0) v9 v28

/-- The class of each support. -/
def pick (v30 : FVec F S1256x1000 .f32) : IVec S1256 32 :=
  let call6_v0 := (iotaInDim S1256x1000 32 1)
  let call6_cst := (constant S_ .f32 0xFF800000#32)
  let call6_c := (constantI S_ 32 0#32)
  (fun x y u v j => (Host.argReduce reducer_argmax_f32_i32 x y u v reducesTo_S1256x1000_S1256_d1 h_S_ j).2) v30 call6_v0 call6_cst call6_c

/-- Entry `(i, j)` is 1 when support `j` comes before support `i` within its class. -/
def before (v32 : IVec S1256 32) (v31 : FVec F S1256 .f32) : IVec S1256x1256 32 :=
  let v33 := (iotaInDim S1256 32 0)
  let v34 := broadcastInDim S1256x1 ![0] bcast_S1256_S1256x1_0 v32
  let v35 := broadcastInDim S1x1256 ![1] bcast_S1256_S1x1256_1 v32
  let v36 := broadcastInDim S1256x1256 ![0, 1] bcast_S1256x1_S1256x1256_0_1 v34
  let v37 := broadcastInDim S1256x1256 ![0, 1] bcast_S1x1256_S1256x1256_0_1 v35
  let v38 := cmpi .eq v36 v37
  let v39 := broadcastInDim S1x1256 ![1] bcast_S1256_S1x1256_1 v31
  let v40 := broadcastInDim S1256x1 ![0] bcast_S1256_S1256x1_0 v31
  let v41 := broadcastInDim S1256x1256 ![0, 1] bcast_S1x1256_S1256x1256_0_1 v39
  let v42 := broadcastInDim S1256x1256 ![0, 1] bcast_S1256x1_S1256x1256_0_1 v40
  let v43 := cmpf .olt v41 v42
  let v44 := broadcastInDim S1x1256 ![1] bcast_S1256_S1x1256_1 v31
  let v45 := broadcastInDim S1256x1 ![0] bcast_S1256_S1256x1_0 v31
  let v46 := broadcastInDim S1256x1256 ![0, 1] bcast_S1x1256_S1256x1256_0_1 v44
  let v47 := broadcastInDim S1256x1256 ![0, 1] bcast_S1256x1_S1256x1256_0_1 v45
  let v48 := cmpf .oeq v46 v47
  let v49 := broadcastInDim S1x1256 ![1] bcast_S1256_S1x1256_1 v33
  let v50 := broadcastInDim S1256x1 ![0] bcast_S1256_S1256x1_0 v33
  let v51 := broadcastInDim S1256x1256 ![0, 1] bcast_S1x1256_S1256x1256_0_1 v49
  let v52 := broadcastInDim S1256x1256 ![0, 1] bcast_S1256x1_S1256x1256_0_1 v50
  let v53 := cmpi .slt v51 v52
  let v54 := andi v48 v53
  let v55 := ori v43 v54
  let v56 := andi v38 v55
  (extui 32 · natLt_1_32) v56

/-- 1 for each support that is kept, 0 for the others. -/
def kept (v57 : IVec S1256x1256 32) : FVec F S1256 .f32 :=
  let c := (constantI S_ 32 0#32)
  let v58 := (fun x v => Host.reduce IntOp.addi x v reducesTo_S1256x1256_S1256_d1 h_S_) v57 c
  let c_1 := (constantI S_ 32 100#32)
  let v59 := broadcastInDim S1256 ![] bcast_S_S1256 c_1
  let v60 := cmpi .slt v58 v59
  uitofp .f32 v60

/-- The supports with rows scaled to length one. -/
def unitRows (v29 : FVec F S1256x2048 .f32) : FVec F S1256x2048 .f32 :=
  let v62 := mulf v29 v29
  let cst_2 := (constant S_ .f32 0x00000000#32)
  let v63 := (fun x v => Host.reduceAdd x v reducesTo_S1256x2048_S1256_d1 h_S_) v62 cst_2
  let v64 := broadcastInDim S1256x1 ![0] bcast_S1256_S1256x1_0 v63
  let cst_3 := (constant S_ .f32 0x179ABE15#32)
  let v65 := broadcastInDim S1256x1 ![] bcast_S_S1256x1 cst_3
  let v66 := maximumf v64 v65
  let v67 := Host.sqrt v66
  let v68 := broadcastInDim S1256x2048 ![0, 1] bcast_S1256x1_S1256x2048_0_1 v67
  Host.divf v29 v68

/-- The class weights. -/
def weights (v69 : FVec F S1256x2048 .f32) (v61 : FVec F S1256 .f32) (v30 : FVec F S1256x1000 .f32) : FVec F S2048x1000 .f32 :=
  let v70 := (transpose S2048x1256 [1, 0] · transposes_S1256x2048_S2048x1256_1_0) v69
  let v71 := broadcastInDim S1256x1 ![0] bcast_S1256_S1256x1_0 v61
  let v72 := broadcastInDim S1256x1000 ![0, 1] bcast_S1256x1_S1256x1000_0_1 v71
  let v73 := mulf v30 v72
  (fun l r => Host.dotGeneral dot_S2048x1256_S1256x1000_S2048x1000_1_0_0_1_n_n none l r) v70 v73

/-- The result. -/
def out (v74 : FVec F S2048x1000 .f32) (v16 : FVec F S256x2048 .f32) : FVec F S256x1000 .f32 :=
  let v75 := mulf v74 v74
  let cst_4 := (constant S_ .f32 0x00000000#32)
  let v76 := (fun x v => Host.reduceAdd x v reducesTo_S2048x1000_S1000_d0 h_S_) v75 cst_4
  let v77 := broadcastInDim S1x1000 ![1] bcast_S1000_S1x1000_1 v76
  let cst_5 := (constant S_ .f32 0x179ABE15#32)
  let v78 := broadcastInDim S1x1000 ![] bcast_S_S1x1000 cst_5
  let v79 := maximumf v77 v78
  let v80 := Host.sqrt v79
  let v81 := broadcastInDim S2048x1000 ![0, 1] bcast_S1x1000_S2048x1000_0_1 v80
  let v82 := Host.divf v74 v81
  (fun l r => Host.dotGeneral dot_S256x2048_S2048x1000_S256x1000_1_0_0_1_n_n none l r) v16 v82

end Cert.Proof.RefFns

end
-- ==== Proof.RefRun.lean ====
module

public import proofs.«01_k».proof.Proof.RefFns
public import Idealize.ShloMosaic.Lib.StableHlo.Run

/-! The run of the reference: its operations in order, cut into stages; what each stage leaves in its result
    buffers; the run of the whole. -/

@[expose] public section

set_option maxRecDepth 16384

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-- Stage 0 of the operations. -/
abbrev ops0 : List (HloOp τ sig (Elt F)) :=
  [ unary main_arg3 main_v0 ((transpose S2048x1000 [1, 0] · transposes_S1000x2048_S2048x1000_1_0) : (⟨S1000x2048, .f32⟩ : BufTy).Contents (Elt F) → (⟨S2048x1000, .f32⟩ : BufTy).Contents (Elt F)),
    binary main_arg3 main_v0 main_v1 ((fun l r => Host.dotGeneral dot_S1000x2048_S2048x1000_S1000x1000_1_0_0_1_n_n none l r) : (⟨S1000x2048, .f32⟩ : BufTy).Contents (Elt F) → (⟨S2048x1000, .f32⟩ : BufTy).Contents (Elt F) → (⟨S1000x1000, .f32⟩ : BufTy).Contents (Elt F)),
    unary main_arg4 main_v2 (broadcastInDim S1x1000 ![1] bcast_S1000_S1x1000_1 : (⟨S1000, .f32⟩ : BufTy).Contents (Elt F) → (⟨S1x1000, .f32⟩ : BufTy).Contents (Elt F)),
    unary main_v2 main_v3 (broadcastInDim S1000x1000 ![0, 1] bcast_S1x1000_S1000x1000_0_1 : (⟨S1x1000, .f32⟩ : BufTy).Contents (Elt F) → (⟨S1000x1000, .f32⟩ : BufTy).Contents (Elt F)),
    binary main_v1 main_v3 main_v4 (addf : (⟨S1000x1000, .f32⟩ : BufTy).Contents (Elt F) → (⟨S1000x1000, .f32⟩ : BufTy).Contents (Elt F) → (⟨S1000x1000, .f32⟩ : BufTy).Contents (Elt F)) ]

/-- What stage 0 writes, in order. -/
abbrev wr0 : List (Ref sig .tc) := [main_v0, main_v1, main_v2, main_v3, main_v4]

/-- Stage 0 writes nothing else. -/
theorem ops0_writes : (ops0 : List (HloOp τ sig (Elt F))).Forall fun op => op.writes ⊆ (wr0.map (Proc.devRef (τ := τ) .tc)).toFinset :=
  forall_writes_sub_of_map rfl

/-- Stage 0 touches buffers of the TensorCore only. -/
theorem ops0_sub : (ops0 : List (HloOp τ sig (Elt F))).Forall fun op => op.bufs ⊆ tcRefs τ sig :=
  ⟨unary_bufs_sub .., binary_bufs_sub .., unary_bufs_sub .., unary_bufs_sub .., binary_bufs_sub ..⟩

/-- Stage 0 at its result `main_v4`. -/
theorem ops0_logitsW (V : Valuation τ sig (Elt F)) :
    after ops0 V (main_v4 : DevRef τ sig) = RefFns.logitsW (V (main_arg3 : DevRef τ sig)) (V (main_arg4 : DevRef τ sig)) := by
  after_results_simp
  rfl

/-- Stage 1 of the operations. -/
abbrev ops1 : List (HloOp τ sig (Elt F)) :=
  [ TRef.nullary main_call0.cst (constant S_ .f32 0xFF800000#32),
    TRef.binary (.of main_v4 : TRef sig ⟨S1000x1000, .f32⟩) main_call0.cst main_call0.v0 (fun x v => Host.reduce FloatOps.maximumf x v reducesTo_S1000x1000_S1000_d1 h_S_),
    TRef.nullary main_call0.cst_0 (constant S_ .f32 0xFF800000#32),
    TRef.unary main_call0.cst_0 main_call0.v1 (broadcastInDim S1000 ![] bcast_S_S1000),
    TRef.binary main_call0.v1 main_call0.v0 main_call0.v2 maximumf,
    TRef.unary main_call0.v2 main_call0.v3 (broadcastInDim S1000x1 ![0] bcast_S1000_S1000x1_0),
    TRef.unary main_call0.v3 main_call0.v4 (broadcastInDim S1000x1000 ![0, 1] bcast_S1000x1_S1000x1000_0_1),
    TRef.binary (.of main_v4 : TRef sig ⟨S1000x1000, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S1000x1000_S1000_d1 h_S_),
    TRef.unary main_call0.v7 main_call0.v8 (broadcastInDim S1000x1 ![0] bcast_S1000_S1000x1_0),
    TRef.unary main_call0.v8 main_call0.v9 Host.log,
    TRef.unary main_call0.v9 main_call0.v10 (broadcastInDim S1000x1000 ![0, 1] bcast_S1000x1_S1000x1000_0_1),
    TRef.binary main_call0.v5 main_call0.v10 main_call0.v11 subf,
    unary main_v5 main_v6 (Host.exp : (⟨S1000x1000, .f32⟩ : BufTy).Contents (Elt F) → (⟨S1000x1000, .f32⟩ : BufTy).Contents (Elt F)),
    binary main_v6 main_v5 main_v7 (mulf : (⟨S1000x1000, .f32⟩ : BufTy).Contents (Elt F) → (⟨S1000x1000, .f32⟩ : BufTy).Contents (Elt F) → (⟨S1000x1000, .f32⟩ : BufTy).Contents (Elt F)),
    nullary main_cst (constant S_ .f32 0x00000000#32),
    binary main_v7 main_cst main_v8 ((fun x v => Host.reduceAdd x v reducesTo_S1000x1000_S1000_d1 h_S_) : (⟨S1000x1000, .f32⟩ : BufTy).Contents (Elt F) → (⟨S_, .f32⟩ : BufTy).Contents (Elt F) → (⟨S1000, .f32⟩ : BufTy).Contents (Elt F)),
    unary main_v8 main_v9 (Host.negf : (⟨S1000, .f32⟩ : BufTy).Contents (Elt F) → (⟨S1000, .f32⟩ : BufTy).Contents (Elt F)) ]

/-- What stage 1 writes, in order. -/
abbrev wr1 : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v5, main_v6, main_v7, main_cst, main_v8, main_v9]

/-- Stage 1 writes nothing else. -/
theorem ops1_writes : (ops1 : List (HloOp τ sig (Elt F))).Forall fun op => op.writes ⊆ (wr1.map (Proc.devRef (τ := τ) .tc)).toFinset :=
  forall_writes_sub_of_map rfl

/-- Stage 1 touches buffers of the TensorCore only. -/
theorem ops1_sub : (ops1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., nullary_bufs_sub .., binary_bufs_sub .., unary_bufs_sub ..⟩

/-- Stage 1 at its result `main_v9`. -/
theorem ops1_entW (V : Valuation τ sig (Elt F)) :
    after ops1 V (main_v9 : DevRef τ sig) = RefFns.entW (V (main_v4 : DevRef τ sig)) := by
  dsimp only [ops1, TRef.nullary, TRef.unary, TRef.binary, TRef.quaternary, TRef.of, main_call0]
  after_results_simp
  simp only [TRef.toBuf, TRef.ofBuf, cast_eq]
  rfl

/-- Stage 2 of the operations. -/
abbrev ops2 : List (HloOp τ sig (Elt F)) :=
  [ TRef.nullary main_call1.v0 (iotaInDim S1000x1000 32 1),
    TRef.nullary main_call1.cst (constant S_ .f32 0xFF800000#32),
    TRef.nullary main_call1.c (constantI S_ 32 0#32),
    TRef.quaternary (.of main_v4 : TRef sig ⟨S1000x1000, .f32⟩) main_call1.v0 main_call1.cst main_call1.c main_call1.v1_0 (fun x y u v j => (Host.argReduce reducer_argmax_f32_i32 x y u v reducesTo_S1000x1000_S1000_d1 h_S_ j).1),
    TRef.quaternary (.of main_v4 : TRef sig ⟨S1000x1000, .f32⟩) main_call1.v0 main_call1.cst main_call1.c main_call1.v1_1 (fun x y u v j => (Host.argReduce reducer_argmax_f32_i32 x y u v reducesTo_S1000x1000_S1000_d1 h_S_ j).2),
    TRef.unary (.of main_v10 : TRef sig ⟨S1000, .i32⟩) main_call2.v0 (broadcastInDim S1000x1 ![0] bcast_S1000_S1000x1_0),
    TRef.nullary main_call2.v1 (iotaInDim S1x1000 32 1),
    TRef.unary main_call2.v0 main_call2.v2 (broadcastInDim S1000x1000 ![0, 1] bcast_S1000x1_S1000x1000_0_1),
    TRef.unary main_call2.v1 main_call2.v3 (broadcastInDim S1000x1000 ![0, 1] bcast_S1x1000_S1000x1000_0_1),
    TRef.binary main_call2.v2 main_call2.v3 main_call2.v4 (cmpi .eq),
    TRef.unary main_call2.v4 main_call2.v5 (uitofp .f32) ]

/-- What stage 2 writes, in order. -/
abbrev wr2 : List (Ref sig .tc) := [main_call1_v0, main_call1_cst, main_call1_c, main_call1_v1_0, main_v10, main_call2_v0, main_call2_v1, main_call2_v2, main_call2_v3, main_call2_v4, main_v11]

/-- Stage 2 writes nothing else. -/
theorem ops2_writes : (ops2 : List (HloOp τ sig (Elt F))).Forall fun op => op.writes ⊆ (wr2.map (Proc.devRef (τ := τ) .tc)).toFinset :=
  forall_writes_sub_of_map rfl

/-- Stage 2 touches buffers of the TensorCore only. -/
theorem ops2_sub : (ops2 : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub ..⟩

/-- Stage 2 at its result `main_v11`. -/
theorem ops2_labW (V : Valuation τ sig (Elt F)) :
    after ops2 V (main_v11 : DevRef τ sig) = RefFns.labW (V (main_v4 : DevRef τ sig)) := by
  dsimp only [ops2, TRef.nullary, TRef.unary, TRef.binary, TRef.quaternary, TRef.of, main_call1, main_call2]
  after_results_simp
  simp only [TRef.toBuf, TRef.ofBuf, cast_eq]
  rfl

/-- Stage 3 of the operations. -/
abbrev ops3 : List (HloOp τ sig (Elt F)) :=
  [ unary main_arg1 main_v12 ((transpose S1024x2048 [1, 0] · transposes_S2048x1024_S1024x2048_1_0) : (⟨S2048x1024, .f32⟩ : BufTy).Contents (Elt F) → (⟨S1024x2048, .f32⟩ : BufTy).Contents (Elt F)),
    binary main_arg0 main_v12 main_v13 ((fun l r => Host.dotGeneral dot_S256x1024_S1024x2048_S256x2048_1_0_0_1_n_n none l r) : (⟨S256x1024, .f32⟩ : BufTy).Contents (Elt F) → (⟨S1024x2048, .f32⟩ : BufTy).Contents (Elt F) → (⟨S256x2048, .f32⟩ : BufTy).Contents (Elt F)),
    unary main_arg2 main_v14 (broadcastInDim S1x2048 ![1] bcast_S2048_S1x2048_1 : (⟨S2048, .f32⟩ : BufTy).Contents (Elt F) → (⟨S1x2048, .f32⟩ : BufTy).Contents (Elt F)),
    unary main_v14 main_v15 (broadcastInDim S256x2048 ![0, 1] bcast_S1x2048_S256x2048_0_1 : (⟨S1x2048, .f32⟩ : BufTy).Contents (Elt F) → (⟨S256x2048, .f32⟩ : BufTy).Contents (Elt F)),
    binary main_v13 main_v15 main_v16 (addf : (⟨S256x2048, .f32⟩ : BufTy).Contents (Elt F) → (⟨S256x2048, .f32⟩ : BufTy).Contents (Elt F) → (⟨S256x2048, .f32⟩ : BufTy).Contents (Elt F)) ]

/-- What stage 3 writes, in order. -/
abbrev wr3 : List (Ref sig .tc) := [main_v12, main_v13, main_v14, main_v15, main_v16]

/-- Stage 3 writes nothing else. -/
theorem ops3_writes : (ops3 : List (HloOp τ sig (Elt F))).Forall fun op => op.writes ⊆ (wr3.map (Proc.devRef (τ := τ) .tc)).toFinset :=
  forall_writes_sub_of_map rfl

/-- Stage 3 touches buffers of the TensorCore only. -/
theorem ops3_sub : (ops3 : List (HloOp τ sig (Elt F))).Forall fun op => op.bufs ⊆ tcRefs τ sig :=
  ⟨unary_bufs_sub .., binary_bufs_sub .., unary_bufs_sub .., unary_bufs_sub .., binary_bufs_sub ..⟩

/-- Stage 3 at its result `main_v16`. -/
theorem ops3_feat (V : Valuation τ sig (Elt F)) :
    after ops3 V (main_v16 : DevRef τ sig) = RefFns.feat (V (main_arg1 : DevRef τ sig)) (V (main_arg0 : DevRef τ sig)) (V (main_arg2 : DevRef τ sig)) := by
  after_results_simp
  rfl

/-- Stage 4 of the operations. -/
abbrev ops4 : List (HloOp τ sig (Elt F)) :=
  [ unary main_arg3 main_v17 ((transpose S2048x1000 [1, 0] · transposes_S1000x2048_S2048x1000_1_0) : (⟨S1000x2048, .f32⟩ : BufTy).Contents (Elt F) → (⟨S2048x1000, .f32⟩ : BufTy).Contents (Elt F)),
    binary main_v16 main_v17 main_v18 ((fun l r => Host.dotGeneral dot_S256x2048_S2048x1000_S256x1000_1_0_0_1_n_n none l r) : (⟨S256x2048, .f32⟩ : BufTy).Contents (Elt F) → (⟨S2048x1000, .f32⟩ : BufTy).Contents (Elt F) → (⟨S256x1000, .f32⟩ : BufTy).Contents (Elt F)),
    unary main_arg4 main_v19 (broadcastInDim S1x1000 ![1] bcast_S1000_S1x1000_1 : (⟨S1000, .f32⟩ : BufTy).Contents (Elt F) → (⟨S1x1000, .f32⟩ : BufTy).Contents (Elt F)),
    unary main_v19 main_v20 (broadcastInDim S256x1000 ![0, 1] bcast_S1x1000_S256x1000_0_1 : (⟨S1x1000, .f32⟩ : BufTy).Contents (Elt F) → (⟨S256x1000, .f32⟩ : BufTy).Contents (Elt F)),
    binary main_v18 main_v20 main_v21 (addf : (⟨S256x1000, .f32⟩ : BufTy).Contents (Elt F) → (⟨S256x1000, .f32⟩ : BufTy).Contents (Elt F) → (⟨S256x1000, .f32⟩ : BufTy).Contents (Elt F)) ]

/-- What stage 4 writes, in order. -/
abbrev wr4 : List (Ref sig .tc) := [main_v17, main_v18, main_v19, main_v20, main_v21]

/-- Stage 4 writes nothing else. -/
theorem ops4_writes : (ops4 : List (HloOp τ sig (Elt F))).Forall fun op => op.writes ⊆ (wr4.map (Proc.devRef (τ := τ) .tc)).toFinset :=
  forall_writes_sub_of_map rfl

/-- Stage 4 touches buffers of the TensorCore only. -/
theorem ops4_sub : (ops4 : List (HloOp τ sig (Elt F))).Forall fun op => op.bufs ⊆ tcRefs τ sig :=
  ⟨unary_bufs_sub .., binary_bufs_sub .., unary_bufs_sub .., unary_bufs_sub .., binary_bufs_sub ..⟩

/-- Stage 4 at its result `main_v21`. -/
theorem ops4_logitsZ (V : Valuation τ sig (Elt F)) :
    after ops4 V (main_v21 : DevRef τ sig) = RefFns.logitsZ (V (main_arg3 : DevRef τ sig)) (V (main_v16 : DevRef τ sig)) (V (main_arg4 : DevRef τ sig)) := by
  after_results_simp
  rfl

/-- Stage 5 of the operations. -/
abbrev ops5 : List (HloOp τ sig (Elt F)) :=
  [ TRef.nullary main_call3.v0 (iotaInDim S256x1000 32 1),
    TRef.nullary main_call3.cst (constant S_ .f32 0xFF800000#32),
    TRef.nullary main_call3.c (constantI S_ 32 0#32),
    TRef.quaternary (.of main_v21 : TRef sig ⟨S256x1000, .f32⟩) main_call3.v0 main_call3.cst main_call3.c main_call3.v1_0 (fun x y u v j => (Host.argReduce reducer_argmax_f32_i32 x y u v reducesTo_S256x1000_S256_d1 h_S_ j).1),
    TRef.quaternary (.of main_v21 : TRef sig ⟨S256x1000, .f32⟩) main_call3.v0 main_call3.cst main_call3.c main_call3.v1_1 (fun x y u v j => (Host.argReduce reducer_argmax_f32_i32 x y u v reducesTo_S256x1000_S256_d1 h_S_ j).2),
    TRef.unary (.of main_v22 : TRef sig ⟨S256, .i32⟩) main_call4.v0 (broadcastInDim S256x1 ![0] bcast_S256_S256x1_0),
    TRef.nullary main_call4.v1 (iotaInDim S1x1000 32 1),
    TRef.unary main_call4.v0 main_call4.v2 (broadcastInDim S256x1000 ![0, 1] bcast_S256x1_S256x1000_0_1),
    TRef.unary main_call4.v1 main_call4.v3 (broadcastInDim S256x1000 ![0, 1] bcast_S1x1000_S256x1000_0_1),
    TRef.binary main_call4.v2 main_call4.v3 main_call4.v4 (cmpi .eq),
    TRef.unary main_call4.v4 main_call4.v5 (uitofp .f32) ]

/-- What stage 5 writes, in order. -/
abbrev wr5 : List (Ref sig .tc) := [main_call3_v0, main_call3_cst, main_call3_c, main_call3_v1_0, main_v22, main_call4_v0, main_call4_v1, main_call4_v2, main_call4_v3, main_call4_v4, main_v23]

/-- Stage 5 writes nothing else. -/
theorem ops5_writes : (ops5 : List (HloOp τ sig (Elt F))).Forall fun op => op.writes ⊆ (wr5.map (Proc.devRef (τ := τ) .tc)).toFinset :=
  forall_writes_sub_of_map rfl

/-- Stage 5 touches buffers of the TensorCore only. -/
theorem ops5_sub : (ops5 : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub ..⟩

/-- Stage 5 at its result `main_v23`. -/
theorem ops5_labZ (V : Valuation τ sig (Elt F)) :
    after ops5 V (main_v23 : DevRef τ sig) = RefFns.labZ (V (main_v21 : DevRef τ sig)) := by
  dsimp only [ops5, TRef.nullary, TRef.unary, TRef.binary, TRef.quaternary, TRef.of, main_call3, main_call4]
  after_results_simp
  simp only [TRef.toBuf, TRef.ofBuf, cast_eq]
  rfl

/-- Stage 6 of the operations. -/
abbrev ops6 : List (HloOp τ sig (Elt F)) :=
  [ TRef.nullary main_call5.cst (constant S_ .f32 0xFF800000#32),
    TRef.binary (.of main_v21 : TRef sig ⟨S256x1000, .f32⟩) main_call5.cst main_call5.v0 (fun x v => Host.reduce FloatOps.maximumf x v reducesTo_S256x1000_S256_d1 h_S_),
    TRef.nullary main_call5.cst_0 (constant S_ .f32 0xFF800000#32),
    TRef.unary main_call5.cst_0 main_call5.v1 (broadcastInDim S256 ![] bcast_S_S256),
    TRef.binary main_call5.v1 main_call5.v0 main_call5.v2 maximumf,
    TRef.unary main_call5.v2 main_call5.v3 (broadcastInDim S256x1 ![0] bcast_S256_S256x1_0),
    TRef.unary main_call5.v3 main_call5.v4 (broadcastInDim S256x1000 ![0, 1] bcast_S256x1_S256x1000_0_1),
    TRef.binary (.of main_v21 : TRef sig ⟨S256x1000, .f32⟩) main_call5.v4 main_call5.v5 subf,
    TRef.unary main_call5.v5 main_call5.v6 Host.exp,
    TRef.nullary main_call5.cst_1 (constant S_ .f32 0x00000000#32),
    TRef.binary main_call5.v6 main_call5.cst_1 main_call5.v7 (fun x v => Host.reduceAdd x v reducesTo_S256x1000_S256_d1 h_S_),
    TRef.unary main_call5.v7 main_call5.v8 (broadcastInDim S256x1 ![0] bcast_S256_S256x1_0),
    TRef.unary main_call5.v8 main_call5.v9 Host.log,
    TRef.unary main_call5.v9 main_call5.v10 (broadcastInDim S256x1000 ![0, 1] bcast_S256x1_S256x1000_0_1),
    TRef.binary main_call5.v5 main_call5.v10 main_call5.v11 subf,
    unary main_v24 main_v25 (Host.exp : (⟨S256x1000, .f32⟩ : BufTy).Contents (Elt F) → (⟨S256x1000, .f32⟩ : BufTy).Contents (Elt F)),
    binary main_v25 main_v24 main_v26 (mulf : (⟨S256x1000, .f32⟩ : BufTy).Contents (Elt F) → (⟨S256x1000, .f32⟩ : BufTy).Contents (Elt F) → (⟨S256x1000, .f32⟩ : BufTy).Contents (Elt F)),
    nullary main_cst_0 (constant S_ .f32 0x00000000#32),
    binary main_v26 main_cst_0 main_v27 ((fun x v => Host.reduceAdd x v reducesTo_S256x1000_S256_d1 h_S_) : (⟨S256x1000, .f32⟩ : BufTy).Contents (Elt F) → (⟨S_, .f32⟩ : BufTy).Contents (Elt F) → (⟨S256, .f32⟩ : BufTy).Contents (Elt F)),
    unary main_v27 main_v28 (Host.negf : (⟨S256, .f32⟩ : BufTy).Contents (Elt F) → (⟨S256, .f32⟩ : BufTy).Contents (Elt F)) ]

/-- What stage 6 writes, in order. -/
abbrev wr6 : List (Ref sig .tc) := [main_call5_cst, main_call5_v0, main_call5_cst_0, main_call5_v1, main_call5_v2, main_call5_v3, main_call5_v4, main_call5_v5, main_call5_v6, main_call5_cst_1, main_call5_v7, main_call5_v8, main_call5_v9, main_call5_v10, main_v24, main_v25, main_v26, main_cst_0, main_v27, main_v28]

/-- Stage 6 writes nothing else. -/
theorem ops6_writes : (ops6 : List (HloOp τ sig (Elt F))).Forall fun op => op.writes ⊆ (wr6.map (Proc.devRef (τ := τ) .tc)).toFinset :=
  forall_writes_sub_of_map rfl

/-- Stage 6 touches buffers of the TensorCore only. -/
theorem ops6_sub : (ops6 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., nullary_bufs_sub .., binary_bufs_sub .., unary_bufs_sub ..⟩

/-- Stage 6 at its result `main_v28`. -/
theorem ops6_entZ (V : Valuation τ sig (Elt F)) :
    after ops6 V (main_v28 : DevRef τ sig) = RefFns.entZ (V (main_v21 : DevRef τ sig)) := by
  dsimp only [ops6, TRef.nullary, TRef.unary, TRef.binary, TRef.quaternary, TRef.of, main_call5]
  after_results_simp
  simp only [TRef.toBuf, TRef.ofBuf, cast_eq]
  rfl

/-- Stage 7 of the operations. -/
abbrev ops7 : List (HloOp τ sig (Elt F)) :=
  [ binary main_arg3 main_v16 main_v29 ((fun a b => concatenate S1256x2048 0 [⟨S1000x2048, a⟩, ⟨S256x2048, b⟩] concatenates_S1000x2048_S256x2048_S1256x2048_d0) : (⟨S1000x2048, .f32⟩ : BufTy).Contents (Elt F) → (⟨S256x2048, .f32⟩ : BufTy).Contents (Elt F) → (⟨S1256x2048, .f32⟩ : BufTy).Contents (Elt F)),
    binary main_v11 main_v23 main_v30 ((fun a b => concatenate S1256x1000 0 [⟨S1000x1000, a⟩, ⟨S256x1000, b⟩] concatenates_S1000x1000_S256x1000_S1256x1000_d0) : (⟨S1000x1000, .f32⟩ : BufTy).Contents (Elt F) → (⟨S256x1000, .f32⟩ : BufTy).Contents (Elt F) → (⟨S1256x1000, .f32⟩ : BufTy).Contents (Elt F)),
    binary main_v9 main_v28 main_v31 ((fun a b => concatenate S1256 0 [⟨S1000, a⟩, ⟨S256, b⟩] concatenates_S1000_S256_S1256_d0) : (⟨S1000, .f32⟩ : BufTy).Contents (Elt F) → (⟨S256, .f32⟩ : BufTy).Contents (Elt F) → (⟨S1256, .f32⟩ : BufTy).Contents (Elt F)) ]

/-- What stage 7 writes, in order. -/
abbrev wr7 : List (Ref sig .tc) := [main_v29, main_v30, main_v31]

/-- Stage 7 writes nothing else. -/
theorem ops7_writes : (ops7 : List (HloOp τ sig (Elt F))).Forall fun op => op.writes ⊆ (wr7.map (Proc.devRef (τ := τ) .tc)).toFinset :=
  forall_writes_sub_of_map rfl

/-- Stage 7 touches buffers of the TensorCore only. -/
theorem ops7_sub : (ops7 : List (HloOp τ sig (Elt F))).Forall fun op => op.bufs ⊆ tcRefs τ sig :=
  ⟨binary_bufs_sub .., binary_bufs_sub .., binary_bufs_sub ..⟩

/-- Stage 7 at its result `main_v29`. -/
theorem ops7_sup (V : Valuation τ sig (Elt F)) :
    after ops7 V (main_v29 : DevRef τ sig) = RefFns.sup (V (main_arg3 : DevRef τ sig)) (V (main_v16 : DevRef τ sig)) := by
  after_results_simp
  rfl

/-- Stage 7 at its result `main_v30`. -/
theorem ops7_lab (V : Valuation τ sig (Elt F)) :
    after ops7 V (main_v30 : DevRef τ sig) = RefFns.lab (V (main_v11 : DevRef τ sig)) (V (main_v23 : DevRef τ sig)) := by
  after_results_simp
  rfl

/-- Stage 7 at its result `main_v31`. -/
theorem ops7_ent (V : Valuation τ sig (Elt F)) :
    after ops7 V (main_v31 : DevRef τ sig) = RefFns.ent (V (main_v9 : DevRef τ sig)) (V (main_v28 : DevRef τ sig)) := by
  after_results_simp
  rfl

/-- Stage 8 of the operations. -/
abbrev ops8 : List (HloOp τ sig (Elt F)) :=
  [ TRef.nullary main_call6.v0 (iotaInDim S1256x1000 32 1),
    TRef.nullary main_call6.cst (constant S_ .f32 0xFF800000#32),
    TRef.nullary main_call6.c (constantI S_ 32 0#32),
    TRef.quaternary (.of main_v30 : TRef sig ⟨S1256x1000, .f32⟩) main_call6.v0 main_call6.cst main_call6.c main_call6.v1_0 (fun x y u v j => (Host.argReduce reducer_argmax_f32_i32 x y u v reducesTo_S1256x1000_S1256_d1 h_S_ j).1),
    TRef.quaternary (.of main_v30 : TRef sig ⟨S1256x1000, .f32⟩) main_call6.v0 main_call6.cst main_call6.c main_call6.v1_1 (fun x y u v j => (Host.argReduce reducer_argmax_f32_i32 x y u v reducesTo_S1256x1000_S1256_d1 h_S_ j).2) ]

/-- What stage 8 writes, in order. -/
abbrev wr8 : List (Ref sig .tc) := [main_call6_v0, main_call6_cst, main_call6_c, main_call6_v1_0, main_v32]

/-- Stage 8 writes nothing else. -/
theorem ops8_writes : (ops8 : List (HloOp τ sig (Elt F))).Forall fun op => op.writes ⊆ (wr8.map (Proc.devRef (τ := τ) .tc)).toFinset :=
  forall_writes_sub_of_map rfl

/-- Stage 8 touches buffers of the TensorCore only. -/
theorem ops8_sub : (ops8 : List (HloOp τ sig (Elt F))).Forall fun op => op.bufs ⊆ tcRefs τ sig :=
  ⟨nullary_bufs_sub .., nullary_bufs_sub .., nullary_bufs_sub .., quaternary_bufs_sub .., quaternary_bufs_sub ..⟩

/-- Stage 8 at its result `main_v32`. -/
theorem ops8_pick (V : Valuation τ sig (Elt F)) :
    after ops8 V (main_v32 : DevRef τ sig) = RefFns.pick (V (main_v30 : DevRef τ sig)) := by
  dsimp only [ops8, TRef.nullary, TRef.unary, TRef.binary, TRef.quaternary, TRef.of, main_call6]
  after_results_simp
  simp only [TRef.toBuf, TRef.ofBuf, cast_eq]
  rfl

/-- Stage 9 of the operations. -/
abbrev ops9 : List (HloOp τ sig (Elt F)) :=
  [ nullary main_v33 (iotaInDim S1256 32 0),
    unary main_v32 main_v34 (broadcastInDim S1256x1 ![0] bcast_S1256_S1256x1_0 : (⟨S1256, .i32⟩ : BufTy).Contents (Elt F) → (⟨S1256x1, .i32⟩ : BufTy).Contents (Elt F)),
    unary main_v32 main_v35 (broadcastInDim S1x1256 ![1] bcast_S1256_S1x1256_1 : (⟨S1256, .i32⟩ : BufTy).Contents (Elt F) → (⟨S1x1256, .i32⟩ : BufTy).Contents (Elt F)),
    unary main_v34 main_v36 (broadcastInDim S1256x1256 ![0, 1] bcast_S1256x1_S1256x1256_0_1 : (⟨S1256x1, .i32⟩ : BufTy).Contents (Elt F) → (⟨S1256x1256, .i32⟩ : BufTy).Contents (Elt F)),
    unary main_v35 main_v37 (broadcastInDim S1256x1256 ![0, 1] bcast_S1x1256_S1256x1256_0_1 : (⟨S1x1256, .i32⟩ : BufTy).Contents (Elt F) → (⟨S1256x1256, .i32⟩ : BufTy).Contents (Elt F)),
    binary main_v36 main_v37 main_v38 (cmpi .eq : (⟨S1256x1256, .i32⟩ : BufTy).Contents (Elt F) → (⟨S1256x1256, .i32⟩ : BufTy).Contents (Elt F) → (⟨S1256x1256, .i1⟩ : BufTy).Contents (Elt F)),
    unary main_v31 main_v39 (broadcastInDim S1x1256 ![1] bcast_S1256_S1x1256_1 : (⟨S1256, .f32⟩ : BufTy).Contents (Elt F) → (⟨S1x1256, .f32⟩ : BufTy).Contents (Elt F)),
    unary main_v31 main_v40 (broadcastInDim S1256x1 ![0] bcast_S1256_S1256x1_0 : (⟨S1256, .f32⟩ : BufTy).Contents (Elt F) → (⟨S1256x1, .f32⟩ : BufTy).Contents (Elt F)),
    unary main_v39 main_v41 (broadcastInDim S1256x1256 ![0, 1] bcast_S1x1256_S1256x1256_0_1 : (⟨S1x1256, .f32⟩ : BufTy).Contents (Elt F) → (⟨S1256x1256, .f32⟩ : BufTy).Contents (Elt F)),
    unary main_v40 main_v42 (broadcastInDim S1256x1256 ![0, 1] bcast_S1256x1_S1256x1256_0_1 : (⟨S1256x1, .f32⟩ : BufTy).Contents (Elt F) → (⟨S1256x1256, .f32⟩ : BufTy).Contents (Elt F)),
    binary main_v41 main_v42 main_v43 (cmpf .olt : (⟨S1256x1256, .f32⟩ : BufTy).Contents (Elt F) → (⟨S1256x1256, .f32⟩ : BufTy).Contents (Elt F) → (⟨S1256x1256, .i1⟩ : BufTy).Contents (Elt F)),
    unary main_v31 main_v44 (broadcastInDim S1x1256 ![1] bcast_S1256_S1x1256_1 : (⟨S1256, .f32⟩ : BufTy).Contents (Elt F) → (⟨S1x1256, .f32⟩ : BufTy).Contents (Elt F)),
    unary main_v31 main_v45 (broadcastInDim S1256x1 ![0] bcast_S1256_S1256x1_0 : (⟨S1256, .f32⟩ : BufTy).Contents (Elt F) → (⟨S1256x1, .f32⟩ : BufTy).Contents (Elt F)),
    unary main_v44 main_v46 (broadcastInDim S1256x1256 ![0, 1] bcast_S1x1256_S1256x1256_0_1 : (⟨S1x1256, .f32⟩ : BufTy).Contents (Elt F) → (⟨S1256x1256, .f32⟩ : BufTy).Contents (Elt F)),
    unary main_v45 main_v47 (broadcastInDim S1256x1256 ![0, 1] bcast_S1256x1_S1256x1256_0_1 : (⟨S1256x1, .f32⟩ : BufTy).Contents (Elt F) → (⟨S1256x1256, .f32⟩ : BufTy).Contents (Elt F)),
    binary main_v46 main_v47 main_v48 (cmpf .oeq : (⟨S1256x1256, .f32⟩ : BufTy).Contents (Elt F) → (⟨S1256x1256, .f32⟩ : BufTy).Contents (Elt F) → (⟨S1256x1256, .i1⟩ : BufTy).Contents (Elt F)),
    unary main_v33 main_v49 (broadcastInDim S1x1256 ![1] bcast_S1256_S1x1256_1 : (⟨S1256, .i32⟩ : BufTy).Contents (Elt F) → (⟨S1x1256, .i32⟩ : BufTy).Contents (Elt F)),
    unary main_v33 main_v50 (broadcastInDim S1256x1 ![0] bcast_S1256_S1256x1_0 : (⟨S1256, .i32⟩ : BufTy).Contents (Elt F) → (⟨S1256x1, .i32⟩ : BufTy).Contents (Elt F)),
    unary main_v49 main_v51 (broadcastInDim S1256x1256 ![0, 1] bcast_S1x1256_S1256x1256_0_1 : (⟨S1x1256, .i32⟩ : BufTy).Contents (Elt F) → (⟨S1256x1256, .i32⟩ : BufTy).Contents (Elt F)),
    unary main_v50 main_v52 (broadcastInDim S1256x1256 ![0, 1] bcast_S1256x1_S1256x1256_0_1 : (⟨S1256x1, .i32⟩ : BufTy).Contents (Elt F) → (⟨S1256x1256, .i32⟩ : BufTy).Contents (Elt F)),
    binary main_v51 main_v52 main_v53 (cmpi .slt : (⟨S1256x1256, .i32⟩ : BufTy).Contents (Elt F) → (⟨S1256x1256, .i32⟩ : BufTy).Contents (Elt F) → (⟨S1256x1256, .i1⟩ : BufTy).Contents (Elt F)),
    binary main_v48 main_v53 main_v54 (andi : (⟨S1256x1256, .i1⟩ : BufTy).Contents (Elt F) → (⟨S1256x1256, .i1⟩ : BufTy).Contents (Elt F) → (⟨S1256x1256, .i1⟩ : BufTy).Contents (Elt F)),
    binary main_v43 main_v54 main_v55 (ori : (⟨S1256x1256, .i1⟩ : BufTy).Contents (Elt F) → (⟨S1256x1256, .i1⟩ : BufTy).Contents (Elt F) → (⟨S1256x1256, .i1⟩ : BufTy).Contents (Elt F)),
    binary main_v38 main_v55 main_v56 (andi : (⟨S1256x1256, .i1⟩ : BufTy).Contents (Elt F) → (⟨S1256x1256, .i1⟩ : BufTy).Contents (Elt F) → (⟨S1256x1256, .i1⟩ : BufTy).Contents (Elt F)),
    unary main_v56 main_v57 ((extui 32 · natLt_1_32) : (⟨S1256x1256, .i1⟩ : BufTy).Contents (Elt F) → (⟨S1256x1256, .i32⟩ : BufTy).Contents (Elt F)) ]

/-- What stage 9 writes, in order. -/
abbrev wr9 : List (Ref sig .tc) := [main_v33, main_v34, main_v35, main_v36, main_v37, main_v38, main_v39, main_v40, main_v41, main_v42, main_v43, main_v44, main_v45, main_v46, main_v47, main_v48, main_v49, main_v50, main_v51, main_v52, main_v53, main_v54, main_v55, main_v56, main_v57]

/-- Stage 9 writes nothing else. -/
theorem ops9_writes : (ops9 : List (HloOp τ sig (Elt F))).Forall fun op => op.writes ⊆ (wr9.map (Proc.devRef (τ := τ) .tc)).toFinset :=
  forall_writes_sub_of_map rfl

/-- Stage 9 touches buffers of the TensorCore only. -/
theorem ops9_sub : (ops9 : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., binary_bufs_sub .., binary_bufs_sub .., unary_bufs_sub ..⟩

/-- Stage 9 at its result `main_v57`. -/
theorem ops9_before (V : Valuation τ sig (Elt F)) :
    after ops9 V (main_v57 : DevRef τ sig) = RefFns.before (V (main_v32 : DevRef τ sig)) (V (main_v31 : DevRef τ sig)) := by
  after_results_simp
  rfl

/-- Stage 10 of the operations. -/
abbrev ops10 : List (HloOp τ sig (Elt F)) :=
  [ nullary main_c (constantI S_ 32 0#32),
    binary main_v57 main_c main_v58 ((fun x v => Host.reduce IntOp.addi x v reducesTo_S1256x1256_S1256_d1 h_S_) : (⟨S1256x1256, .i32⟩ : BufTy).Contents (Elt F) → (⟨S_, .i32⟩ : BufTy).Contents (Elt F) → (⟨S1256, .i32⟩ : BufTy).Contents (Elt F)),
    nullary main_c_1 (constantI S_ 32 100#32),
    unary main_c_1 main_v59 (broadcastInDim S1256 ![] bcast_S_S1256 : (⟨S_, .i32⟩ : BufTy).Contents (Elt F) → (⟨S1256, .i32⟩ : BufTy).Contents (Elt F)),
    binary main_v58 main_v59 main_v60 (cmpi .slt : (⟨S1256, .i32⟩ : BufTy).Contents (Elt F) → (⟨S1256, .i32⟩ : BufTy).Contents (Elt F) → (⟨S1256, .i1⟩ : BufTy).Contents (Elt F)),
    unary main_v60 main_v61 (uitofp .f32 : (⟨S1256, .i1⟩ : BufTy).Contents (Elt F) → (⟨S1256, .f32⟩ : BufTy).Contents (Elt F)) ]

/-- What stage 10 writes, in order. -/
abbrev wr10 : List (Ref sig .tc) := [main_c, main_v58, main_c_1, main_v59, main_v60, main_v61]

/-- Stage 10 writes nothing else. -/
theorem ops10_writes : (ops10 : List (HloOp τ sig (Elt F))).Forall fun op => op.writes ⊆ (wr10.map (Proc.devRef (τ := τ) .tc)).toFinset :=
  forall_writes_sub_of_map rfl

/-- Stage 10 touches buffers of the TensorCore only. -/
theorem ops10_sub : (ops10 : List (HloOp τ sig (Elt F))).Forall fun op => op.bufs ⊆ tcRefs τ sig :=
  ⟨nullary_bufs_sub .., binary_bufs_sub .., nullary_bufs_sub .., unary_bufs_sub .., binary_bufs_sub .., unary_bufs_sub ..⟩

/-- Stage 10 at its result `main_v61`. -/
theorem ops10_kept (V : Valuation τ sig (Elt F)) :
    after ops10 V (main_v61 : DevRef τ sig) = RefFns.kept (V (main_v57 : DevRef τ sig)) := by
  after_results_simp
  rfl

/-- Stage 11 of the operations. -/
abbrev ops11 : List (HloOp τ sig (Elt F)) :=
  [ binary main_v29 main_v29 main_v62 (mulf : (⟨S1256x2048, .f32⟩ : BufTy).Contents (Elt F) → (⟨S1256x2048, .f32⟩ : BufTy).Contents (Elt F) → (⟨S1256x2048, .f32⟩ : BufTy).Contents (Elt F)),
    nullary main_cst_2 (constant S_ .f32 0x00000000#32),
    binary main_v62 main_cst_2 main_v63 ((fun x v => Host.reduceAdd x v reducesTo_S1256x2048_S1256_d1 h_S_) : (⟨S1256x2048, .f32⟩ : BufTy).Contents (Elt F) → (⟨S_, .f32⟩ : BufTy).Contents (Elt F) → (⟨S1256, .f32⟩ : BufTy).Contents (Elt F)),
    unary main_v63 main_v64 (broadcastInDim S1256x1 ![0] bcast_S1256_S1256x1_0 : (⟨S1256, .f32⟩ : BufTy).Contents (Elt F) → (⟨S1256x1, .f32⟩ : BufTy).Contents (Elt F)),
    nullary main_cst_3 (constant S_ .f32 0x179ABE15#32),
    unary main_cst_3 main_v65 (broadcastInDim S1256x1 ![] bcast_S_S1256x1 : (⟨S_, .f32⟩ : BufTy).Contents (Elt F) → (⟨S1256x1, .f32⟩ : BufTy).Contents (Elt F)),
    binary main_v64 main_v65 main_v66 (maximumf : (⟨S1256x1, .f32⟩ : BufTy).Contents (Elt F) → (⟨S1256x1, .f32⟩ : BufTy).Contents (Elt F) → (⟨S1256x1, .f32⟩ : BufTy).Contents (Elt F)),
    unary main_v66 main_v67 (Host.sqrt : (⟨S1256x1, .f32⟩ : BufTy).Contents (Elt F) → (⟨S1256x1, .f32⟩ : BufTy).Contents (Elt F)),
    unary main_v67 main_v68 (broadcastInDim S1256x2048 ![0, 1] bcast_S1256x1_S1256x2048_0_1 : (⟨S1256x1, .f32⟩ : BufTy).Contents (Elt F) → (⟨S1256x2048, .f32⟩ : BufTy).Contents (Elt F)),
    binary main_v29 main_v68 main_v69 (Host.divf : (⟨S1256x2048, .f32⟩ : BufTy).Contents (Elt F) → (⟨S1256x2048, .f32⟩ : BufTy).Contents (Elt F) → (⟨S1256x2048, .f32⟩ : BufTy).Contents (Elt F)) ]

/-- What stage 11 writes, in order. -/
abbrev wr11 : List (Ref sig .tc) := [main_v62, main_cst_2, main_v63, main_v64, main_cst_3, main_v65, main_v66, main_v67, main_v68, main_v69]

/-- Stage 11 writes nothing else. -/
theorem ops11_writes : (ops11 : List (HloOp τ sig (Elt F))).Forall fun op => op.writes ⊆ (wr11.map (Proc.devRef (τ := τ) .tc)).toFinset :=
  forall_writes_sub_of_map rfl

/-- Stage 11 touches buffers of the TensorCore only. -/
theorem ops11_sub : (ops11 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., unary_bufs_sub .., unary_bufs_sub .., binary_bufs_sub ..⟩

/-- Stage 11 at its result `main_v69`. -/
theorem ops11_unitRows (V : Valuation τ sig (Elt F)) :
    after ops11 V (main_v69 : DevRef τ sig) = RefFns.unitRows (V (main_v29 : DevRef τ sig)) := by
  after_results_simp
  rfl

/-- Stage 12 of the operations. -/
abbrev ops12 : List (HloOp τ sig (Elt F)) :=
  [ unary main_v69 main_v70 ((transpose S2048x1256 [1, 0] · transposes_S1256x2048_S2048x1256_1_0) : (⟨S1256x2048, .f32⟩ : BufTy).Contents (Elt F) → (⟨S2048x1256, .f32⟩ : BufTy).Contents (Elt F)),
    unary main_v61 main_v71 (broadcastInDim S1256x1 ![0] bcast_S1256_S1256x1_0 : (⟨S1256, .f32⟩ : BufTy).Contents (Elt F) → (⟨S1256x1, .f32⟩ : BufTy).Contents (Elt F)),
    unary main_v71 main_v72 (broadcastInDim S1256x1000 ![0, 1] bcast_S1256x1_S1256x1000_0_1 : (⟨S1256x1, .f32⟩ : BufTy).Contents (Elt F) → (⟨S1256x1000, .f32⟩ : BufTy).Contents (Elt F)),
    binary main_v30 main_v72 main_v73 (mulf : (⟨S1256x1000, .f32⟩ : BufTy).Contents (Elt F) → (⟨S1256x1000, .f32⟩ : BufTy).Contents (Elt F) → (⟨S1256x1000, .f32⟩ : BufTy).Contents (Elt F)),
    binary main_v70 main_v73 main_v74 ((fun l r => Host.dotGeneral dot_S2048x1256_S1256x1000_S2048x1000_1_0_0_1_n_n none l r) : (⟨S2048x1256, .f32⟩ : BufTy).Contents (Elt F) → (⟨S1256x1000, .f32⟩ : BufTy).Contents (Elt F) → (⟨S2048x1000, .f32⟩ : BufTy).Contents (Elt F)) ]

/-- What stage 12 writes, in order. -/
abbrev wr12 : List (Ref sig .tc) := [main_v70, main_v71, main_v72, main_v73, main_v74]

/-- Stage 12 writes nothing else. -/
theorem ops12_writes : (ops12 : List (HloOp τ sig (Elt F))).Forall fun op => op.writes ⊆ (wr12.map (Proc.devRef (τ := τ) .tc)).toFinset :=
  forall_writes_sub_of_map rfl

/-- Stage 12 touches buffers of the TensorCore only. -/
theorem ops12_sub : (ops12 : List (HloOp τ sig (Elt F))).Forall fun op => op.bufs ⊆ tcRefs τ sig :=
  ⟨unary_bufs_sub .., unary_bufs_sub .., unary_bufs_sub .., binary_bufs_sub .., binary_bufs_sub ..⟩

/-- Stage 12 at its result `main_v74`. -/
theorem ops12_weights (V : Valuation τ sig (Elt F)) :
    after ops12 V (main_v74 : DevRef τ sig) = RefFns.weights (V (main_v69 : DevRef τ sig)) (V (main_v61 : DevRef τ sig)) (V (main_v30 : DevRef τ sig)) := by
  after_results_simp
  rfl

/-- Stage 13 of the operations. -/
abbrev ops13 : List (HloOp τ sig (Elt F)) :=
  [ binary main_v74 main_v74 main_v75 (mulf : (⟨S2048x1000, .f32⟩ : BufTy).Contents (Elt F) → (⟨S2048x1000, .f32⟩ : BufTy).Contents (Elt F) → (⟨S2048x1000, .f32⟩ : BufTy).Contents (Elt F)),
    nullary main_cst_4 (constant S_ .f32 0x00000000#32),
    binary main_v75 main_cst_4 main_v76 ((fun x v => Host.reduceAdd x v reducesTo_S2048x1000_S1000_d0 h_S_) : (⟨S2048x1000, .f32⟩ : BufTy).Contents (Elt F) → (⟨S_, .f32⟩ : BufTy).Contents (Elt F) → (⟨S1000, .f32⟩ : BufTy).Contents (Elt F)),
    unary main_v76 main_v77 (broadcastInDim S1x1000 ![1] bcast_S1000_S1x1000_1 : (⟨S1000, .f32⟩ : BufTy).Contents (Elt F) → (⟨S1x1000, .f32⟩ : BufTy).Contents (Elt F)),
    nullary main_cst_5 (constant S_ .f32 0x179ABE15#32),
    unary main_cst_5 main_v78 (broadcastInDim S1x1000 ![] bcast_S_S1x1000 : (⟨S_, .f32⟩ : BufTy).Contents (Elt F) → (⟨S1x1000, .f32⟩ : BufTy).Contents (Elt F)),
    binary main_v77 main_v78 main_v79 (maximumf : (⟨S1x1000, .f32⟩ : BufTy).Contents (Elt F) → (⟨S1x1000, .f32⟩ : BufTy).Contents (Elt F) → (⟨S1x1000, .f32⟩ : BufTy).Contents (Elt F)),
    unary main_v79 main_v80 (Host.sqrt : (⟨S1x1000, .f32⟩ : BufTy).Contents (Elt F) → (⟨S1x1000, .f32⟩ : BufTy).Contents (Elt F)),
    unary main_v80 main_v81 (broadcastInDim S2048x1000 ![0, 1] bcast_S1x1000_S2048x1000_0_1 : (⟨S1x1000, .f32⟩ : BufTy).Contents (Elt F) → (⟨S2048x1000, .f32⟩ : BufTy).Contents (Elt F)),
    binary main_v74 main_v81 main_v82 (Host.divf : (⟨S2048x1000, .f32⟩ : BufTy).Contents (Elt F) → (⟨S2048x1000, .f32⟩ : BufTy).Contents (Elt F) → (⟨S2048x1000, .f32⟩ : BufTy).Contents (Elt F)),
    binary main_v16 main_v82 main_v83 ((fun l r => Host.dotGeneral dot_S256x2048_S2048x1000_S256x1000_1_0_0_1_n_n none l r) : (⟨S256x2048, .f32⟩ : BufTy).Contents (Elt F) → (⟨S2048x1000, .f32⟩ : BufTy).Contents (Elt F) → (⟨S256x1000, .f32⟩ : BufTy).Contents (Elt F)) ]

/-- What stage 13 writes, in order. -/
abbrev wr13 : List (Ref sig .tc) := [main_v75, main_cst_4, main_v76, main_v77, main_cst_5, main_v78, main_v79, main_v80, main_v81, main_v82, main_v83]

/-- Stage 13 writes nothing else. -/
theorem ops13_writes : (ops13 : List (HloOp τ sig (Elt F))).Forall fun op => op.writes ⊆ (wr13.map (Proc.devRef (τ := τ) .tc)).toFinset :=
  forall_writes_sub_of_map rfl

/-- Stage 13 touches buffers of the TensorCore only. -/
theorem ops13_sub : (ops13 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., unary_bufs_sub .., unary_bufs_sub .., binary_bufs_sub .., binary_bufs_sub ..⟩

/-- Stage 13 at its result `main_v83`. -/
theorem ops13_out (V : Valuation τ sig (Elt F)) :
    after ops13 V (main_v83 : DevRef τ sig) = RefFns.out (V (main_v74 : DevRef τ sig)) (V (main_v16 : DevRef τ sig)) := by
  after_results_simp
  rfl

/-- The operations of the first half of @main. -/
abbrev opsA : List (HloOp τ sig (Elt F)) :=
  ops0 ++ (ops1 ++ (ops2 ++ (ops3 ++ (ops4 ++ (ops5 ++ (ops6 ++ (ops7 ++ (ops8 ++ (ops9)))))))))

/-- The operations of the second half of @main. -/
abbrev opsB : List (HloOp τ sig (Elt F)) :=
  ops10 ++ (ops11 ++ (ops12 ++ (ops13)))

/-- One operation, then a row of them. -/
theorem row_cons (op : HloOp τ sig (Elt F)) (l : List (HloOp τ sig (Elt F)))
    (k : Prog (TpuEff nD τ sig (Elt F) (Pipeline.Sig Λ₀ (Fin 0) fun p => (pcfgs (F := F) p).Adm) .tc) PUnit)
    (hk : k = seq l) :
    ((hlo rfl op (fun _ => (.ret ⟨⟩ : Prog (TpuEff nD τ sig (Elt F) (Pipeline.Sig Λ₀ (Fin 0) fun p => (pcfgs (F := F) p).Adm) .tc) PUnit))) >>= fun _ => k) = seq (op :: l) := by
  subst hk; rfl

/-- A called row of operations, then another row. -/
theorem row_append (l₁ l : List (HloOp τ sig (Elt F)))
    (b k : Prog (TpuEff nD τ sig (Elt F) (Pipeline.Sig Λ₀ (Fin 0) fun p => (pcfgs (F := F) p).Adm) .tc) PUnit)
    (hb : b = seq l₁) (hk : k = seq l) :
    (b >>= fun _ => k) = seq (l₁ ++ l) := by
  subst hb hk; exact (seq_append l₁ l).symm

/-- The operations of call 0. -/
theorem call0_eq : fn_log_softmax.body (F := F) (.of main_v4) main_call0 = seq (ops1.take 15) := by
  unfold fn_log_softmax.body
  repeat refine row_cons _ _ _ ?_
  rfl

/-- The operations of call 1. -/
theorem call1_eq : fn_argmax.body (F := F) (.of main_v4) main_call1 = seq (ops2.take 5) := rfl

/-- The operations of call 2. -/
theorem call2_eq : fn_one_hot.body (F := F) (.of main_v10) main_call2 = seq (ops2.drop 5) := rfl

/-- The operations of call 3. -/
theorem call3_eq : fn_argmax_0.body (F := F) (.of main_v21) main_call3 = seq (ops5.take 5) := rfl

/-- The operations of call 4. -/
theorem call4_eq : fn_one_hot_1.body (F := F) (.of main_v22) main_call4 = seq (ops5.drop 5) := rfl

/-- The operations of call 5. -/
theorem call5_eq : fn_log_softmax_2.body (F := F) (.of main_v21) main_call5 = seq (ops6.take 15) := by
  unfold fn_log_softmax_2.body
  repeat refine row_cons _ _ _ ?_
  rfl

/-- The operations of call 6. -/
theorem call6_eq : fn_argmax_3.body (F := F) (.of main_v30) main_call6 = seq (ops8.take 5) := rfl

set_option maxHeartbeats 0 in
/-- The first half of @main is its operations in a row. -/
theorem part0_eq (c : Dev nD) : main_part0 (F := F) c = seq opsA := by
  unfold main_part0
  iterate 5 refine row_cons _ _ _ ?_
  refine row_append (ops1.take 15) _ _ _ call0_eq ?_
  iterate 5 refine row_cons _ _ _ ?_
  refine row_append (ops2.take 5) _ _ _ call1_eq ?_
  refine row_append (ops2.drop 5) _ _ _ call2_eq ?_
  iterate 10 refine row_cons _ _ _ ?_
  refine row_append (ops5.take 5) _ _ _ call3_eq ?_
  refine row_append (ops5.drop 5) _ _ _ call4_eq ?_
  refine row_append (ops6.take 15) _ _ _ call5_eq ?_
  iterate 5 refine row_cons _ _ _ ?_
  iterate 3 refine row_cons _ _ _ ?_
  refine row_append (ops8.take 5) _ _ _ call6_eq ?_
  iterate 24 refine row_cons _ _ _ ?_
  rfl

set_option maxRecDepth 1000000 in
set_option maxHeartbeats 0 in
/-- The second half of @main is its operations in a row. -/
theorem part1_eq (c : Dev nD) : main_part1 (F := F) c = seq opsB := rfl

/-- @main is all its operations in a row. -/
theorem main_eq (c : Dev nD) : main (F := F) c = seq (opsA ++ opsB) := by
  have h : main (F := F) c = (main_part0 (F := F) c >>= fun _ => main_part1 (F := F) c) := rfl
  rw [h, part0_eq c, part1_eq c]
  exact (seq_append opsA opsB).symm

/-- Nothing is scoped: neither buffers nor semaphores. -/
theorem scopedRefs_eq : (Finset.univ.filter fun b : Ref sig .tc => b.isScoped) = ∅ := by decide
theorem scopedSems_eq : (Finset.univ.filter fun sm : SemLoc sig => sm.isScoped .tc) = ∅ := by decide

/-- The operations touch buffers of the TensorCore only. -/
theorem ops_sub : (opsA ++ opsB : List (HloOp τ sig (Elt F))).Forall fun op => op.bufs ⊆ tcRefs τ sig := by
  simp only [opsA, opsB, List.forall_append]
  exact ⟨⟨ops0_sub, ops1_sub, ops2_sub, ops3_sub, ops4_sub, ops5_sub, ops6_sub, ops7_sub, ops8_sub, ops9_sub⟩,
    ops10_sub, ops11_sub, ops12_sub, ops13_sub⟩

end Cert.Proof.RefRun

end
-- ==== Proof.RefEnd.lean ====
module

public import proofs.«01_k».proof.Proof.RefRun
public import Idealize.ShloMosaic.Lib.Quiescent
public import Idealize.ShloMosaic.Lib.Claim

/-! The run of the reference as a whole: its result as the stages' functions composed, its arguments unchanged. -/

@[expose] public section

set_option maxRecDepth 16384

noncomputable section

namespace Cert.Proof.RefEnd

open Cert.ReferenceIdeal Cert.ReferenceIdeal.Gen
open Idealize.ShloMosaic Idealize.ShloMosaic.TcCoe Idealize.ShloMosaic.StableHlo Idealize.SL.Sem
open Cert.Proof.RefRun

variable {F : FTy → Type} [FloatOps F]

/-- The scores of the 1000 class rows. -/
def r_v4 (V : Valuation τ sig (Elt F)) : FVec F S1000x1000 .f32 := RefFns.logitsW (F := F) (V (main_arg3 : DevRef τ sig)) (V (main_arg4 : DevRef τ sig))

/-- The entropy of each class row, from its scores. -/
def r_v9 (V : Valuation τ sig (Elt F)) : FVec F S1000 .f32 := RefFns.entW (F := F) (r_v4 V)

/-- The one-hot label of each class row, from its scores. -/
def r_v11 (V : Valuation τ sig (Elt F)) : FVec F S1000x1000 .f32 := RefFns.labW (F := F) (r_v4 V)

/-- The features of the 256 inputs. -/
def r_v16 (V : Valuation τ sig (Elt F)) : FVec F S256x2048 .f32 := RefFns.feat (F := F) (V (main_arg1 : DevRef τ sig)) (V (main_arg0 : DevRef τ sig)) (V (main_arg2 : DevRef τ sig))

/-- The scores of the 256 inputs. -/
def r_v21 (V : Valuation τ sig (Elt F)) : FVec F S256x1000 .f32 := RefFns.logitsZ (F := F) (V (main_arg3 : DevRef τ sig)) (r_v16 V) (V (main_arg4 : DevRef τ sig))

/-- The one-hot label of each input, from its scores. -/
def r_v23 (V : Valuation τ sig (Elt F)) : FVec F S256x1000 .f32 := RefFns.labZ (F := F) (r_v21 V)

/-- The entropy of each input, from its scores. -/
def r_v28 (V : Valuation τ sig (Elt F)) : FVec F S256 .f32 := RefFns.entZ (F := F) (r_v21 V)

/-- All 1256 supports, one under another. -/
def r_v29 (V : Valuation τ sig (Elt F)) : FVec F S1256x2048 .f32 := RefFns.sup (F := F) (V (main_arg3 : DevRef τ sig)) (r_v16 V)

/-- All 1256 labels. -/
def r_v30 (V : Valuation τ sig (Elt F)) : FVec F S1256x1000 .f32 := RefFns.lab (F := F) (r_v11 V) (r_v23 V)

/-- All 1256 entropies. -/
def r_v31 (V : Valuation τ sig (Elt F)) : FVec F S1256 .f32 := RefFns.ent (F := F) (r_v9 V) (r_v28 V)

/-- The class of each support. -/
def r_v32 (V : Valuation τ sig (Elt F)) : IVec S1256 32 := RefFns.pick (F := F) (r_v30 V)

/-- Entry `(i, j)` is 1 when support `j` comes before support `i` within its class. -/
def r_v57 (V : Valuation τ sig (Elt F)) : IVec S1256x1256 32 := RefFns.before (F := F) (r_v32 V) (r_v31 V)

/-- 1 for each support that is kept, 0 for the others. -/
def r_v61 (V : Valuation τ sig (Elt F)) : FVec F S1256 .f32 := RefFns.kept (F := F) (r_v57 V)

/-- The supports with rows scaled to length one. -/
def r_v69 (V : Valuation τ sig (Elt F)) : FVec F S1256x2048 .f32 := RefFns.unitRows (F := F) (r_v29 V)

/-- The class weights. -/
def r_v74 (V : Valuation τ sig (Elt F)) : FVec F S2048x1000 .f32 := RefFns.weights (F := F) (r_v69 V) (r_v61 V) (r_v30 V)

/-- The result. -/
def r_v83 (V : Valuation τ sig (Elt F)) : FVec F S256x1000 .f32 := RefFns.out (F := F) (r_v74 V) (r_v16 V)

/-- The contents before any stage. -/
def val0 (V : Valuation τ sig (Elt F)) : Valuation τ sig (Elt F) := V

/-- The contents after stage 0. -/
def val1 (V : Valuation τ sig (Elt F)) : Valuation τ sig (Elt F) := after ops0 (val0 V)

/-- Stage 0 leaves every other buffer alone. -/
theorem keep0 (V : Valuation τ sig (Elt F)) (b : Ref sig .tc) (h : b ∉ wr0) :
    val1 V (b : DevRef τ sig) = val0 V (b : DevRef τ sig) :=
  after_of_writes_sub ops0 (val0 V) ops0_writes h

/-- The contents after stage 1. -/
def val2 (V : Valuation τ sig (Elt F)) : Valuation τ sig (Elt F) := after ops1 (val1 V)

/-- Stage 1 leaves every other buffer alone. -/
theorem keep1 (V : Valuation τ sig (Elt F)) (b : Ref sig .tc) (h : b ∉ wr1) :
    val2 V (b : DevRef τ sig) = val1 V (b : DevRef τ sig) :=
  after_of_writes_sub ops1 (val1 V) ops1_writes h

/-- The contents after stage 2. -/
def val3 (V : Valuation τ sig (Elt F)) : Valuation τ sig (Elt F) := after ops2 (val2 V)

/-- Stage 2 leaves every other buffer alone. -/
theorem keep2 (V : Valuation τ sig (Elt F)) (b : Ref sig .tc) (h : b ∉ wr2) :
    val3 V (b : DevRef τ sig) = val2 V (b : DevRef τ sig) :=
  after_of_writes_sub ops2 (val2 V) ops2_writes h

/-- The contents after stage 3. -/
def val4 (V : Valuation τ sig (Elt F)) : Valuation τ sig (Elt F) := after ops3 (val3 V)

/-- Stage 3 leaves every other buffer alone. -/
theorem keep3 (V : Valuation τ sig (Elt F)) (b : Ref sig .tc) (h : b ∉ wr3) :
    val4 V (b : DevRef τ sig) = val3 V (b : DevRef τ sig) :=
  after_of_writes_sub ops3 (val3 V) ops3_writes h

/-- The contents after stage 4. -/
def val5 (V : Valuation τ sig (Elt F)) : Valuation τ sig (Elt F) := after ops4 (val4 V)

/-- Stage 4 leaves every other buffer alone. -/
theorem keep4 (V : Valuation τ sig (Elt F)) (b : Ref sig .tc) (h : b ∉ wr4) :
    val5 V (b : DevRef τ sig) = val4 V (b : DevRef τ sig) :=
  after_of_writes_sub ops4 (val4 V) ops4_writes h

/-- The contents after stage 5. -/
def val6 (V : Valuation τ sig (Elt F)) : Valuation τ sig (Elt F) := after ops5 (val5 V)

/-- Stage 5 leaves every other buffer alone. -/
theorem keep5 (V : Valuation τ sig (Elt F)) (b : Ref sig .tc) (h : b ∉ wr5) :
    val6 V (b : DevRef τ sig) = val5 V (b : DevRef τ sig) :=
  after_of_writes_sub ops5 (val5 V) ops5_writes h

/-- The contents after stage 6. -/
def val7 (V : Valuation τ sig (Elt F)) : Valuation τ sig (Elt F) := after ops6 (val6 V)

/-- Stage 6 leaves every other buffer alone. -/
theorem keep6 (V : Valuation τ sig (Elt F)) (b : Ref sig .tc) (h : b ∉ wr6) :
    val7 V (b : DevRef τ sig) = val6 V (b : DevRef τ sig) :=
  after_of_writes_sub ops6 (val6 V) ops6_writes h

/-- The contents after stage 7. -/
def val8 (V : Valuation τ sig (Elt F)) : Valuation τ sig (Elt F) := after ops7 (val7 V)

/-- Stage 7 leaves every other buffer alone. -/
theorem keep7 (V : Valuation τ sig (Elt F)) (b : Ref sig .tc) (h : b ∉ wr7) :
    val8 V (b : DevRef τ sig) = val7 V (b : DevRef τ sig) :=
  after_of_writes_sub ops7 (val7 V) ops7_writes h

/-- The contents after stage 8. -/
def val9 (V : Valuation τ sig (Elt F)) : Valuation τ sig (Elt F) := after ops8 (val8 V)

/-- Stage 8 leaves every other buffer alone. -/
theorem keep8 (V : Valuation τ sig (Elt F)) (b : Ref sig .tc) (h : b ∉ wr8) :
    val9 V (b : DevRef τ sig) = val8 V (b : DevRef τ sig) :=
  after_of_writes_sub ops8 (val8 V) ops8_writes h

/-- The contents after stage 9. -/
def val10 (V : Valuation τ sig (Elt F)) : Valuation τ sig (Elt F) := after ops9 (val9 V)

/-- Stage 9 leaves every other buffer alone. -/
theorem keep9 (V : Valuation τ sig (Elt F)) (b : Ref sig .tc) (h : b ∉ wr9) :
    val10 V (b : DevRef τ sig) = val9 V (b : DevRef τ sig) :=
  after_of_writes_sub ops9 (val9 V) ops9_writes h

/-- The contents after stage 10. -/
def val11 (V : Valuation τ sig (Elt F)) : Valuation τ sig (Elt F) := after ops10 (val10 V)

/-- Stage 10 leaves every other buffer alone. -/
theorem keep10 (V : Valuation τ sig (Elt F)) (b : Ref sig .tc) (h : b ∉ wr10) :
    val11 V (b : DevRef τ sig) = val10 V (b : DevRef τ sig) :=
  after_of_writes_sub ops10 (val10 V) ops10_writes h

/-- The contents after stage 11. -/
def val12 (V : Valuation τ sig (Elt F)) : Valuation τ sig (Elt F) := after ops11 (val11 V)

/-- Stage 11 leaves every other buffer alone. -/
theorem keep11 (V : Valuation τ sig (Elt F)) (b : Ref sig .tc) (h : b ∉ wr11) :
    val12 V (b : DevRef τ sig) = val11 V (b : DevRef τ sig) :=
  after_of_writes_sub ops11 (val11 V) ops11_writes h

/-- The contents after stage 12. -/
def val13 (V : Valuation τ sig (Elt F)) : Valuation τ sig (Elt F) := after ops12 (val12 V)

/-- Stage 12 leaves every other buffer alone. -/
theorem keep12 (V : Valuation τ sig (Elt F)) (b : Ref sig .tc) (h : b ∉ wr12) :
    val13 V (b : DevRef τ sig) = val12 V (b : DevRef τ sig) :=
  after_of_writes_sub ops12 (val12 V) ops12_writes h

/-- The contents after stage 13. -/
def val14 (V : Valuation τ sig (Elt F)) : Valuation τ sig (Elt F) := after ops13 (val13 V)

/-- Stage 13 leaves every other buffer alone. -/
theorem keep13 (V : Valuation τ sig (Elt F)) (b : Ref sig .tc) (h : b ∉ wr13) :
    val14 V (b : DevRef τ sig) = val13 V (b : DevRef τ sig) :=
  after_of_writes_sub ops13 (val13 V) ops13_writes h

/-- The argument at the start. -/
theorem val0_arg0 (V : Valuation τ sig (Elt F)) : val0 V (main_arg0 : DevRef τ sig) = V (main_arg0 : DevRef τ sig) := rfl

/-- The argument at the start. -/
theorem val0_arg1 (V : Valuation τ sig (Elt F)) : val0 V (main_arg1 : DevRef τ sig) = V (main_arg1 : DevRef τ sig) := rfl

/-- The argument at the start. -/
theorem val0_arg2 (V : Valuation τ sig (Elt F)) : val0 V (main_arg2 : DevRef τ sig) = V (main_arg2 : DevRef τ sig) := rfl

/-- The argument at the start. -/
theorem val0_arg3 (V : Valuation τ sig (Elt F)) : val0 V (main_arg3 : DevRef τ sig) = V (main_arg3 : DevRef τ sig) := rfl

/-- The argument at the start. -/
theorem val0_arg4 (V : Valuation τ sig (Elt F)) : val0 V (main_arg4 : DevRef τ sig) = V (main_arg4 : DevRef τ sig) := rfl

/-- Kept by stage 0. -/
theorem val1_arg0 (V : Valuation τ sig (Elt F)) : val1 V (main_arg0 : DevRef τ sig) = V (main_arg0 : DevRef τ sig) :=
  (keep0 V main_arg0 (by decide)).trans (val0_arg0 V)

/-- Kept by stage 0. -/
theorem val1_arg1 (V : Valuation τ sig (Elt F)) : val1 V (main_arg1 : DevRef τ sig) = V (main_arg1 : DevRef τ sig) :=
  (keep0 V main_arg1 (by decide)).trans (val0_arg1 V)

/-- Kept by stage 0. -/
theorem val1_arg2 (V : Valuation τ sig (Elt F)) : val1 V (main_arg2 : DevRef τ sig) = V (main_arg2 : DevRef τ sig) :=
  (keep0 V main_arg2 (by decide)).trans (val0_arg2 V)

/-- Kept by stage 0. -/
theorem val1_arg3 (V : Valuation τ sig (Elt F)) : val1 V (main_arg3 : DevRef τ sig) = V (main_arg3 : DevRef τ sig) :=
  (keep0 V main_arg3 (by decide)).trans (val0_arg3 V)

/-- Kept by stage 0. -/
theorem val1_arg4 (V : Valuation τ sig (Elt F)) : val1 V (main_arg4 : DevRef τ sig) = V (main_arg4 : DevRef τ sig) :=
  (keep0 V main_arg4 (by decide)).trans (val0_arg4 V)

/-- Made by stage 0. -/
theorem val1_v4 (V : Valuation τ sig (Elt F)) : val1 V (main_v4 : DevRef τ sig) = r_v4 V := by
  refine (ops0_logitsW (val0 V)).trans ?_
  rw [val0_arg3, val0_arg4]
  rfl

/-- Kept by stage 1. -/
theorem val2_arg0 (V : Valuation τ sig (Elt F)) : val2 V (main_arg0 : DevRef τ sig) = V (main_arg0 : DevRef τ sig) :=
  (keep1 V main_arg0 (by decide)).trans (val1_arg0 V)

/-- Kept by stage 1. -/
theorem val2_arg1 (V : Valuation τ sig (Elt F)) : val2 V (main_arg1 : DevRef τ sig) = V (main_arg1 : DevRef τ sig) :=
  (keep1 V main_arg1 (by decide)).trans (val1_arg1 V)

/-- Kept by stage 1. -/
theorem val2_arg2 (V : Valuation τ sig (Elt F)) : val2 V (main_arg2 : DevRef τ sig) = V (main_arg2 : DevRef τ sig) :=
  (keep1 V main_arg2 (by decide)).trans (val1_arg2 V)

/-- Kept by stage 1. -/
theorem val2_arg3 (V : Valuation τ sig (Elt F)) : val2 V (main_arg3 : DevRef τ sig) = V (main_arg3 : DevRef τ sig) :=
  (keep1 V main_arg3 (by decide)).trans (val1_arg3 V)

/-- Kept by stage 1. -/
theorem val2_arg4 (V : Valuation τ sig (Elt F)) : val2 V (main_arg4 : DevRef τ sig) = V (main_arg4 : DevRef τ sig) :=
  (keep1 V main_arg4 (by decide)).trans (val1_arg4 V)

/-- Kept by stage 1. -/
theorem val2_v4 (V : Valuation τ sig (Elt F)) : val2 V (main_v4 : DevRef τ sig) = r_v4 V :=
  (keep1 V main_v4 (by decide)).trans (val1_v4 V)

/-- Made by stage 1. -/
theorem val2_v9 (V : Valuation τ sig (Elt F)) : val2 V (main_v9 : DevRef τ sig) = r_v9 V := by
  refine (ops1_entW (val1 V)).trans ?_
  rw [val1_v4]
  rfl

/-- Kept by stage 2. -/
theorem val3_arg0 (V : Valuation τ sig (Elt F)) : val3 V (main_arg0 : DevRef τ sig) = V (main_arg0 : DevRef τ sig) :=
  (keep2 V main_arg0 (by decide)).trans (val2_arg0 V)

/-- Kept by stage 2. -/
theorem val3_arg1 (V : Valuation τ sig (Elt F)) : val3 V (main_arg1 : DevRef τ sig) = V (main_arg1 : DevRef τ sig) :=
  (keep2 V main_arg1 (by decide)).trans (val2_arg1 V)

/-- Kept by stage 2. -/
theorem val3_arg2 (V : Valuation τ sig (Elt F)) : val3 V (main_arg2 : DevRef τ sig) = V (main_arg2 : DevRef τ sig) :=
  (keep2 V main_arg2 (by decide)).trans (val2_arg2 V)

/-- Kept by stage 2. -/
theorem val3_arg3 (V : Valuation τ sig (Elt F)) : val3 V (main_arg3 : DevRef τ sig) = V (main_arg3 : DevRef τ sig) :=
  (keep2 V main_arg3 (by decide)).trans (val2_arg3 V)

/-- Kept by stage 2. -/
theorem val3_arg4 (V : Valuation τ sig (Elt F)) : val3 V (main_arg4 : DevRef τ sig) = V (main_arg4 : DevRef τ sig) :=
  (keep2 V main_arg4 (by decide)).trans (val2_arg4 V)

/-- Kept by stage 2. -/
theorem val3_v9 (V : Valuation τ sig (Elt F)) : val3 V (main_v9 : DevRef τ sig) = r_v9 V :=
  (keep2 V main_v9 (by decide)).trans (val2_v9 V)

/-- Made by stage 2. -/
theorem val3_v11 (V : Valuation τ sig (Elt F)) : val3 V (main_v11 : DevRef τ sig) = r_v11 V := by
  refine (ops2_labW (val2 V)).trans ?_
  rw [val2_v4]
  rfl

/-- Kept by stage 3. -/
theorem val4_arg0 (V : Valuation τ sig (Elt F)) : val4 V (main_arg0 : DevRef τ sig) = V (main_arg0 : DevRef τ sig) :=
  (keep3 V main_arg0 (by decide)).trans (val3_arg0 V)

/-- Kept by stage 3. -/
theorem val4_arg1 (V : Valuation τ sig (Elt F)) : val4 V (main_arg1 : DevRef τ sig) = V (main_arg1 : DevRef τ sig) :=
  (keep3 V main_arg1 (by decide)).trans (val3_arg1 V)

/-- Kept by stage 3. -/
theorem val4_arg2 (V : Valuation τ sig (Elt F)) : val4 V (main_arg2 : DevRef τ sig) = V (main_arg2 : DevRef τ sig) :=
  (keep3 V main_arg2 (by decide)).trans (val3_arg2 V)

/-- Kept by stage 3. -/
theorem val4_arg3 (V : Valuation τ sig (Elt F)) : val4 V (main_arg3 : DevRef τ sig) = V (main_arg3 : DevRef τ sig) :=
  (keep3 V main_arg3 (by decide)).trans (val3_arg3 V)

/-- Kept by stage 3. -/
theorem val4_arg4 (V : Valuation τ sig (Elt F)) : val4 V (main_arg4 : DevRef τ sig) = V (main_arg4 : DevRef τ sig) :=
  (keep3 V main_arg4 (by decide)).trans (val3_arg4 V)

/-- Kept by stage 3. -/
theorem val4_v9 (V : Valuation τ sig (Elt F)) : val4 V (main_v9 : DevRef τ sig) = r_v9 V :=
  (keep3 V main_v9 (by decide)).trans (val3_v9 V)

/-- Kept by stage 3. -/
theorem val4_v11 (V : Valuation τ sig (Elt F)) : val4 V (main_v11 : DevRef τ sig) = r_v11 V :=
  (keep3 V main_v11 (by decide)).trans (val3_v11 V)

/-- Made by stage 3. -/
theorem val4_v16 (V : Valuation τ sig (Elt F)) : val4 V (main_v16 : DevRef τ sig) = r_v16 V := by
  refine (ops3_feat (val3 V)).trans ?_
  rw [val3_arg1, val3_arg0, val3_arg2]
  rfl

/-- Kept by stage 4. -/
theorem val5_arg0 (V : Valuation τ sig (Elt F)) : val5 V (main_arg0 : DevRef τ sig) = V (main_arg0 : DevRef τ sig) :=
  (keep4 V main_arg0 (by decide)).trans (val4_arg0 V)

/-- Kept by stage 4. -/
theorem val5_arg1 (V : Valuation τ sig (Elt F)) : val5 V (main_arg1 : DevRef τ sig) = V (main_arg1 : DevRef τ sig) :=
  (keep4 V main_arg1 (by decide)).trans (val4_arg1 V)

/-- Kept by stage 4. -/
theorem val5_arg2 (V : Valuation τ sig (Elt F)) : val5 V (main_arg2 : DevRef τ sig) = V (main_arg2 : DevRef τ sig) :=
  (keep4 V main_arg2 (by decide)).trans (val4_arg2 V)

/-- Kept by stage 4. -/
theorem val5_arg3 (V : Valuation τ sig (Elt F)) : val5 V (main_arg3 : DevRef τ sig) = V (main_arg3 : DevRef τ sig) :=
  (keep4 V main_arg3 (by decide)).trans (val4_arg3 V)

/-- Kept by stage 4. -/
theorem val5_arg4 (V : Valuation τ sig (Elt F)) : val5 V (main_arg4 : DevRef τ sig) = V (main_arg4 : DevRef τ sig) :=
  (keep4 V main_arg4 (by decide)).trans (val4_arg4 V)

/-- Kept by stage 4. -/
theorem val5_v9 (V : Valuation τ sig (Elt F)) : val5 V (main_v9 : DevRef τ sig) = r_v9 V :=
  (keep4 V main_v9 (by decide)).trans (val4_v9 V)

/-- Kept by stage 4. -/
theorem val5_v11 (V : Valuation τ sig (Elt F)) : val5 V (main_v11 : DevRef τ sig) = r_v11 V :=
  (keep4 V main_v11 (by decide)).trans (val4_v11 V)

/-- Kept by stage 4. -/
theorem val5_v16 (V : Valuation τ sig (Elt F)) : val5 V (main_v16 : DevRef τ sig) = r_v16 V :=
  (keep4 V main_v16 (by decide)).trans (val4_v16 V)

/-- Made by stage 4. -/
theorem val5_v21 (V : Valuation τ sig (Elt F)) : val5 V (main_v21 : DevRef τ sig) = r_v21 V := by
  refine (ops4_logitsZ (val4 V)).trans ?_
  rw [val4_arg3, val4_v16, val4_arg4]
  rfl

/-- Kept by stage 5. -/
theorem val6_arg0 (V : Valuation τ sig (Elt F)) : val6 V (main_arg0 : DevRef τ sig) = V (main_arg0 : DevRef τ sig) :=
  (keep5 V main_arg0 (by decide)).trans (val5_arg0 V)

/-- Kept by stage 5. -/
theorem val6_arg1 (V : Valuation τ sig (Elt F)) : val6 V (main_arg1 : DevRef τ sig) = V (main_arg1 : DevRef τ sig) :=
  (keep5 V main_arg1 (by decide)).trans (val5_arg1 V)

/-- Kept by stage 5. -/
theorem val6_arg2 (V : Valuation τ sig (Elt F)) : val6 V (main_arg2 : DevRef τ sig) = V (main_arg2 : DevRef τ sig) :=
  (keep5 V main_arg2 (by decide)).trans (val5_arg2 V)

/-- Kept by stage 5. -/
theorem val6_arg3 (V : Valuation τ sig (Elt F)) : val6 V (main_arg3 : DevRef τ sig) = V (main_arg3 : DevRef τ sig) :=
  (keep5 V main_arg3 (by decide)).trans (val5_arg3 V)

/-- Kept by stage 5. -/
theorem val6_arg4 (V : Valuation τ sig (Elt F)) : val6 V (main_arg4 : DevRef τ sig) = V (main_arg4 : DevRef τ sig) :=
  (keep5 V main_arg4 (by decide)).trans (val5_arg4 V)

/-- Kept by stage 5. -/
theorem val6_v9 (V : Valuation τ sig (Elt F)) : val6 V (main_v9 : DevRef τ sig) = r_v9 V :=
  (keep5 V main_v9 (by decide)).trans (val5_v9 V)

/-- Kept by stage 5. -/
theorem val6_v11 (V : Valuation τ sig (Elt F)) : val6 V (main_v11 : DevRef τ sig) = r_v11 V :=
  (keep5 V main_v11 (by decide)).trans (val5_v11 V)

/-- Kept by stage 5. -/
theorem val6_v16 (V : Valuation τ sig (Elt F)) : val6 V (main_v16 : DevRef τ sig) = r_v16 V :=
  (keep5 V main_v16 (by decide)).trans (val5_v16 V)

/-- Kept by stage 5. -/
theorem val6_v21 (V : Valuation τ sig (Elt F)) : val6 V (main_v21 : DevRef τ sig) = r_v21 V :=
  (keep5 V main_v21 (by decide)).trans (val5_v21 V)

/-- Made by stage 5. -/
theorem val6_v23 (V : Valuation τ sig (Elt F)) : val6 V (main_v23 : DevRef τ sig) = r_v23 V := by
  refine (ops5_labZ (val5 V)).trans ?_
  rw [val5_v21]
  rfl

/-- Kept by stage 6. -/
theorem val7_arg0 (V : Valuation τ sig (Elt F)) : val7 V (main_arg0 : DevRef τ sig) = V (main_arg0 : DevRef τ sig) :=
  (keep6 V main_arg0 (by decide)).trans (val6_arg0 V)

/-- Kept by stage 6. -/
theorem val7_arg1 (V : Valuation τ sig (Elt F)) : val7 V (main_arg1 : DevRef τ sig) = V (main_arg1 : DevRef τ sig) :=
  (keep6 V main_arg1 (by decide)).trans (val6_arg1 V)

/-- Kept by stage 6. -/
theorem val7_arg2 (V : Valuation τ sig (Elt F)) : val7 V (main_arg2 : DevRef τ sig) = V (main_arg2 : DevRef τ sig) :=
  (keep6 V main_arg2 (by decide)).trans (val6_arg2 V)

/-- Kept by stage 6. -/
theorem val7_arg3 (V : Valuation τ sig (Elt F)) : val7 V (main_arg3 : DevRef τ sig) = V (main_arg3 : DevRef τ sig) :=
  (keep6 V main_arg3 (by decide)).trans (val6_arg3 V)

/-- Kept by stage 6. -/
theorem val7_arg4 (V : Valuation τ sig (Elt F)) : val7 V (main_arg4 : DevRef τ sig) = V (main_arg4 : DevRef τ sig) :=
  (keep6 V main_arg4 (by decide)).trans (val6_arg4 V)

/-- Kept by stage 6. -/
theorem val7_v9 (V : Valuation τ sig (Elt F)) : val7 V (main_v9 : DevRef τ sig) = r_v9 V :=
  (keep6 V main_v9 (by decide)).trans (val6_v9 V)

/-- Kept by stage 6. -/
theorem val7_v11 (V : Valuation τ sig (Elt F)) : val7 V (main_v11 : DevRef τ sig) = r_v11 V :=
  (keep6 V main_v11 (by decide)).trans (val6_v11 V)

/-- Kept by stage 6. -/
theorem val7_v16 (V : Valuation τ sig (Elt F)) : val7 V (main_v16 : DevRef τ sig) = r_v16 V :=
  (keep6 V main_v16 (by decide)).trans (val6_v16 V)

/-- Kept by stage 6. -/
theorem val7_v23 (V : Valuation τ sig (Elt F)) : val7 V (main_v23 : DevRef τ sig) = r_v23 V :=
  (keep6 V main_v23 (by decide)).trans (val6_v23 V)

/-- Made by stage 6. -/
theorem val7_v28 (V : Valuation τ sig (Elt F)) : val7 V (main_v28 : DevRef τ sig) = r_v28 V := by
  refine (ops6_entZ (val6 V)).trans ?_
  rw [val6_v21]
  rfl

/-- Kept by stage 7. -/
theorem val8_arg0 (V : Valuation τ sig (Elt F)) : val8 V (main_arg0 : DevRef τ sig) = V (main_arg0 : DevRef τ sig) :=
  (keep7 V main_arg0 (by decide)).trans (val7_arg0 V)

/-- Kept by stage 7. -/
theorem val8_arg1 (V : Valuation τ sig (Elt F)) : val8 V (main_arg1 : DevRef τ sig) = V (main_arg1 : DevRef τ sig) :=
  (keep7 V main_arg1 (by decide)).trans (val7_arg1 V)

/-- Kept by stage 7. -/
theorem val8_arg2 (V : Valuation τ sig (Elt F)) : val8 V (main_arg2 : DevRef τ sig) = V (main_arg2 : DevRef τ sig) :=
  (keep7 V main_arg2 (by decide)).trans (val7_arg2 V)

/-- Kept by stage 7. -/
theorem val8_arg3 (V : Valuation τ sig (Elt F)) : val8 V (main_arg3 : DevRef τ sig) = V (main_arg3 : DevRef τ sig) :=
  (keep7 V main_arg3 (by decide)).trans (val7_arg3 V)

/-- Kept by stage 7. -/
theorem val8_arg4 (V : Valuation τ sig (Elt F)) : val8 V (main_arg4 : DevRef τ sig) = V (main_arg4 : DevRef τ sig) :=
  (keep7 V main_arg4 (by decide)).trans (val7_arg4 V)

/-- Kept by stage 7. -/
theorem val8_v16 (V : Valuation τ sig (Elt F)) : val8 V (main_v16 : DevRef τ sig) = r_v16 V :=
  (keep7 V main_v16 (by decide)).trans (val7_v16 V)

/-- Made by stage 7. -/
theorem val8_v29 (V : Valuation τ sig (Elt F)) : val8 V (main_v29 : DevRef τ sig) = r_v29 V := by
  refine (ops7_sup (val7 V)).trans ?_
  rw [val7_arg3, val7_v16]
  rfl

/-- Made by stage 7. -/
theorem val8_v30 (V : Valuation τ sig (Elt F)) : val8 V (main_v30 : DevRef τ sig) = r_v30 V := by
  refine (ops7_lab (val7 V)).trans ?_
  rw [val7_v11, val7_v23]
  rfl

/-- Made by stage 7. -/
theorem val8_v31 (V : Valuation τ sig (Elt F)) : val8 V (main_v31 : DevRef τ sig) = r_v31 V := by
  refine (ops7_ent (val7 V)).trans ?_
  rw [val7_v9, val7_v28]
  rfl

/-- Kept by stage 8. -/
theorem val9_arg0 (V : Valuation τ sig (Elt F)) : val9 V (main_arg0 : DevRef τ sig) = V (main_arg0 : DevRef τ sig) :=
  (keep8 V main_arg0 (by decide)).trans (val8_arg0 V)

/-- Kept by stage 8. -/
theorem val9_arg1 (V : Valuation τ sig (Elt F)) : val9 V (main_arg1 : DevRef τ sig) = V (main_arg1 : DevRef τ sig) :=
  (keep8 V main_arg1 (by decide)).trans (val8_arg1 V)

/-- Kept by stage 8. -/
theorem val9_arg2 (V : Valuation τ sig (Elt F)) : val9 V (main_arg2 : DevRef τ sig) = V (main_arg2 : DevRef τ sig) :=
  (keep8 V main_arg2 (by decide)).trans (val8_arg2 V)

/-- Kept by stage 8. -/
theorem val9_arg3 (V : Valuation τ sig (Elt F)) : val9 V (main_arg3 : DevRef τ sig) = V (main_arg3 : DevRef τ sig) :=
  (keep8 V main_arg3 (by decide)).trans (val8_arg3 V)

/-- Kept by stage 8. -/
theorem val9_arg4 (V : Valuation τ sig (Elt F)) : val9 V (main_arg4 : DevRef τ sig) = V (main_arg4 : DevRef τ sig) :=
  (keep8 V main_arg4 (by decide)).trans (val8_arg4 V)

/-- Kept by stage 8. -/
theorem val9_v16 (V : Valuation τ sig (Elt F)) : val9 V (main_v16 : DevRef τ sig) = r_v16 V :=
  (keep8 V main_v16 (by decide)).trans (val8_v16 V)

/-- Kept by stage 8. -/
theorem val9_v29 (V : Valuation τ sig (Elt F)) : val9 V (main_v29 : DevRef τ sig) = r_v29 V :=
  (keep8 V main_v29 (by decide)).trans (val8_v29 V)

/-- Kept by stage 8. -/
theorem val9_v30 (V : Valuation τ sig (Elt F)) : val9 V (main_v30 : DevRef τ sig) = r_v30 V :=
  (keep8 V main_v30 (by decide)).trans (val8_v30 V)

/-- Kept by stage 8. -/
theorem val9_v31 (V : Valuation τ sig (Elt F)) : val9 V (main_v31 : DevRef τ sig) = r_v31 V :=
  (keep8 V main_v31 (by decide)).trans (val8_v31 V)

/-- Made by stage 8. -/
theorem val9_v32 (V : Valuation τ sig (Elt F)) : val9 V (main_v32 : DevRef τ sig) = r_v32 V := by
  refine (ops8_pick (val8 V)).trans ?_
  rw [val8_v30]
  rfl

/-- Kept by stage 9. -/
theorem val10_arg0 (V : Valuation τ sig (Elt F)) : val10 V (main_arg0 : DevRef τ sig) = V (main_arg0 : DevRef τ sig) :=
  (keep9 V main_arg0 (by decide)).trans (val9_arg0 V)

/-- Kept by stage 9. -/
theorem val10_arg1 (V : Valuation τ sig (Elt F)) : val10 V (main_arg1 : DevRef τ sig) = V (main_arg1 : DevRef τ sig) :=
  (keep9 V main_arg1 (by decide)).trans (val9_arg1 V)

/-- Kept by stage 9. -/
theorem val10_arg2 (V : Valuation τ sig (Elt F)) : val10 V (main_arg2 : DevRef τ sig) = V (main_arg2 : DevRef τ sig) :=
  (keep9 V main_arg2 (by decide)).trans (val9_arg2 V)

/-- Kept by stage 9. -/
theorem val10_arg3 (V : Valuation τ sig (Elt F)) : val10 V (main_arg3 : DevRef τ sig) = V (main_arg3 : DevRef τ sig) :=
  (keep9 V main_arg3 (by decide)).trans (val9_arg3 V)

/-- Kept by stage 9. -/
theorem val10_arg4 (V : Valuation τ sig (Elt F)) : val10 V (main_arg4 : DevRef τ sig) = V (main_arg4 : DevRef τ sig) :=
  (keep9 V main_arg4 (by decide)).trans (val9_arg4 V)

/-- Kept by stage 9. -/
theorem val10_v16 (V : Valuation τ sig (Elt F)) : val10 V (main_v16 : DevRef τ sig) = r_v16 V :=
  (keep9 V main_v16 (by decide)).trans (val9_v16 V)

/-- Kept by stage 9. -/
theorem val10_v29 (V : Valuation τ sig (Elt F)) : val10 V (main_v29 : DevRef τ sig) = r_v29 V :=
  (keep9 V main_v29 (by decide)).trans (val9_v29 V)

/-- Kept by stage 9. -/
theorem val10_v30 (V : Valuation τ sig (Elt F)) : val10 V (main_v30 : DevRef τ sig) = r_v30 V :=
  (keep9 V main_v30 (by decide)).trans (val9_v30 V)

/-- Made by stage 9. -/
theorem val10_v57 (V : Valuation τ sig (Elt F)) : val10 V (main_v57 : DevRef τ sig) = r_v57 V := by
  refine (ops9_before (val9 V)).trans ?_
  rw [val9_v32, val9_v31]
  rfl

/-- Kept by stage 10. -/
theorem val11_arg0 (V : Valuation τ sig (Elt F)) : val11 V (main_arg0 : DevRef τ sig) = V (main_arg0 : DevRef τ sig) :=
  (keep10 V main_arg0 (by decide)).trans (val10_arg0 V)

/-- Kept by stage 10. -/
theorem val11_arg1 (V : Valuation τ sig (Elt F)) : val11 V (main_arg1 : DevRef τ sig) = V (main_arg1 : DevRef τ sig) :=
  (keep10 V main_arg1 (by decide)).trans (val10_arg1 V)

/-- Kept by stage 10. -/
theorem val11_arg2 (V : Valuation τ sig (Elt F)) : val11 V (main_arg2 : DevRef τ sig) = V (main_arg2 : DevRef τ sig) :=
  (keep10 V main_arg2 (by decide)).trans (val10_arg2 V)

/-- Kept by stage 10. -/
theorem val11_arg3 (V : Valuation τ sig (Elt F)) : val11 V (main_arg3 : DevRef τ sig) = V (main_arg3 : DevRef τ sig) :=
  (keep10 V main_arg3 (by decide)).trans (val10_arg3 V)

/-- Kept by stage 10. -/
theorem val11_arg4 (V : Valuation τ sig (Elt F)) : val11 V (main_arg4 : DevRef τ sig) = V (main_arg4 : DevRef τ sig) :=
  (keep10 V main_arg4 (by decide)).trans (val10_arg4 V)

/-- Kept by stage 10. -/
theorem val11_v16 (V : Valuation τ sig (Elt F)) : val11 V (main_v16 : DevRef τ sig) = r_v16 V :=
  (keep10 V main_v16 (by decide)).trans (val10_v16 V)

/-- Kept by stage 10. -/
theorem val11_v29 (V : Valuation τ sig (Elt F)) : val11 V (main_v29 : DevRef τ sig) = r_v29 V :=
  (keep10 V main_v29 (by decide)).trans (val10_v29 V)

/-- Kept by stage 10. -/
theorem val11_v30 (V : Valuation τ sig (Elt F)) : val11 V (main_v30 : DevRef τ sig) = r_v30 V :=
  (keep10 V main_v30 (by decide)).trans (val10_v30 V)

/-- Made by stage 10. -/
theorem val11_v61 (V : Valuation τ sig (Elt F)) : val11 V (main_v61 : DevRef τ sig) = r_v61 V := by
  refine (ops10_kept (val10 V)).trans ?_
  rw [val10_v57]
  rfl

/-- Kept by stage 11. -/
theorem val12_arg0 (V : Valuation τ sig (Elt F)) : val12 V (main_arg0 : DevRef τ sig) = V (main_arg0 : DevRef τ sig) :=
  (keep11 V main_arg0 (by decide)).trans (val11_arg0 V)

/-- Kept by stage 11. -/
theorem val12_arg1 (V : Valuation τ sig (Elt F)) : val12 V (main_arg1 : DevRef τ sig) = V (main_arg1 : DevRef τ sig) :=
  (keep11 V main_arg1 (by decide)).trans (val11_arg1 V)

/-- Kept by stage 11. -/
theorem val12_arg2 (V : Valuation τ sig (Elt F)) : val12 V (main_arg2 : DevRef τ sig) = V (main_arg2 : DevRef τ sig) :=
  (keep11 V main_arg2 (by decide)).trans (val11_arg2 V)

/-- Kept by stage 11. -/
theorem val12_arg3 (V : Valuation τ sig (Elt F)) : val12 V (main_arg3 : DevRef τ sig) = V (main_arg3 : DevRef τ sig) :=
  (keep11 V main_arg3 (by decide)).trans (val11_arg3 V)

/-- Kept by stage 11. -/
theorem val12_arg4 (V : Valuation τ sig (Elt F)) : val12 V (main_arg4 : DevRef τ sig) = V (main_arg4 : DevRef τ sig) :=
  (keep11 V main_arg4 (by decide)).trans (val11_arg4 V)

/-- Kept by stage 11. -/
theorem val12_v16 (V : Valuation τ sig (Elt F)) : val12 V (main_v16 : DevRef τ sig) = r_v16 V :=
  (keep11 V main_v16 (by decide)).trans (val11_v16 V)

/-- Kept by stage 11. -/
theorem val12_v30 (V : Valuation τ sig (Elt F)) : val12 V (main_v30 : DevRef τ sig) = r_v30 V :=
  (keep11 V main_v30 (by decide)).trans (val11_v30 V)

/-- Kept by stage 11. -/
theorem val12_v61 (V : Valuation τ sig (Elt F)) : val12 V (main_v61 : DevRef τ sig) = r_v61 V :=
  (keep11 V main_v61 (by decide)).trans (val11_v61 V)

/-- Made by stage 11. -/
theorem val12_v69 (V : Valuation τ sig (Elt F)) : val12 V (main_v69 : DevRef τ sig) = r_v69 V := by
  refine (ops11_unitRows (val11 V)).trans ?_
  rw [val11_v29]
  rfl

/-- Kept by stage 12. -/
theorem val13_arg0 (V : Valuation τ sig (Elt F)) : val13 V (main_arg0 : DevRef τ sig) = V (main_arg0 : DevRef τ sig) :=
  (keep12 V main_arg0 (by decide)).trans (val12_arg0 V)

/-- Kept by stage 12. -/
theorem val13_arg1 (V : Valuation τ sig (Elt F)) : val13 V (main_arg1 : DevRef τ sig) = V (main_arg1 : DevRef τ sig) :=
  (keep12 V main_arg1 (by decide)).trans (val12_arg1 V)

/-- Kept by stage 12. -/
theorem val13_arg2 (V : Valuation τ sig (Elt F)) : val13 V (main_arg2 : DevRef τ sig) = V (main_arg2 : DevRef τ sig) :=
  (keep12 V main_arg2 (by decide)).trans (val12_arg2 V)

/-- Kept by stage 12. -/
theorem val13_arg3 (V : Valuation τ sig (Elt F)) : val13 V (main_arg3 : DevRef τ sig) = V (main_arg3 : DevRef τ sig) :=
  (keep12 V main_arg3 (by decide)).trans (val12_arg3 V)

/-- Kept by stage 12. -/
theorem val13_arg4 (V : Valuation τ sig (Elt F)) : val13 V (main_arg4 : DevRef τ sig) = V (main_arg4 : DevRef τ sig) :=
  (keep12 V main_arg4 (by decide)).trans (val12_arg4 V)

/-- Kept by stage 12. -/
theorem val13_v16 (V : Valuation τ sig (Elt F)) : val13 V (main_v16 : DevRef τ sig) = r_v16 V :=
  (keep12 V main_v16 (by decide)).trans (val12_v16 V)

/-- Made by stage 12. -/
theorem val13_v74 (V : Valuation τ sig (Elt F)) : val13 V (main_v74 : DevRef τ sig) = r_v74 V := by
  refine (ops12_weights (val12 V)).trans ?_
  rw [val12_v69, val12_v61, val12_v30]
  rfl

/-- Kept by stage 13. -/
theorem val14_arg0 (V : Valuation τ sig (Elt F)) : val14 V (main_arg0 : DevRef τ sig) = V (main_arg0 : DevRef τ sig) :=
  (keep13 V main_arg0 (by decide)).trans (val13_arg0 V)

/-- Kept by stage 13. -/
theorem val14_arg1 (V : Valuation τ sig (Elt F)) : val14 V (main_arg1 : DevRef τ sig) = V (main_arg1 : DevRef τ sig) :=
  (keep13 V main_arg1 (by decide)).trans (val13_arg1 V)

/-- Kept by stage 13. -/
theorem val14_arg2 (V : Valuation τ sig (Elt F)) : val14 V (main_arg2 : DevRef τ sig) = V (main_arg2 : DevRef τ sig) :=
  (keep13 V main_arg2 (by decide)).trans (val13_arg2 V)

/-- Kept by stage 13. -/
theorem val14_arg3 (V : Valuation τ sig (Elt F)) : val14 V (main_arg3 : DevRef τ sig) = V (main_arg3 : DevRef τ sig) :=
  (keep13 V main_arg3 (by decide)).trans (val13_arg3 V)

/-- Kept by stage 13. -/
theorem val14_arg4 (V : Valuation τ sig (Elt F)) : val14 V (main_arg4 : DevRef τ sig) = V (main_arg4 : DevRef τ sig) :=
  (keep13 V main_arg4 (by decide)).trans (val13_arg4 V)

/-- Made by stage 13. -/
theorem val14_v83 (V : Valuation τ sig (Elt F)) : val14 V (main_v83 : DevRef τ sig) = r_v83 V := by
  refine (ops13_out (val13 V)).trans ?_
  rw [val13_v74, val13_v16]
  rfl

/-- The contents after all stages. -/
theorem after_all (V : Valuation τ sig (Elt F)) : after (opsA ++ opsB) V = val14 V := by
  rw [after_append]
  unfold opsA opsB
  iterate 12 rw [after_append]
  rfl

/-- The reference's run: it ends with its result at the composed stages, its arguments unchanged, all counters zero. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v83) = r_v83 (launchContents m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 := by
  refine (θ_run defs _ _).mono (fun r h => ⟨fun c => ?_, sem_eq_zero_of_no_sems (by decide) r.2⟩)
    (run_seq scopedRefs_eq scopedSems_eq defs main (fun _ => opsA ++ opsB) main_eq (fun _ => ops_sub) m ρ ?_)
  · have e := h c
    rw [after_all] at e
    exact ⟨(e main_v83).trans (val14_v83 _), (e main_arg0).trans (val14_arg0 _), (e main_arg1).trans (val14_arg1 _),
      (e main_arg2).trans (val14_arg2 _), (e main_arg3).trans (val14_arg3 _), (e main_arg4).trans (val14_arg4 _)⟩
  · intro _ op hop
    simp only [opsA, opsB, List.mem_append] at hop
    rcases hop with (h | h | h | h | h | h | h | h | h | h) | h | h | h | h <;>
    · repeat (cases h with | head => rfl | tail _ h => ?_)
      exact nomatch h

end Cert.Proof.RefEnd

end
-- ==== Proof.KRun.lean ====
module

public import proofs.«01_k».proof.Proof.Gen.KernelIdeal.Frame

/-! The run of the kernel: its result buffer ends at the fold's contents, its arguments as launched. -/

@[expose] public section

set_option maxRecDepth 16384

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends with the result buffer at what the last call leaves and the arguments as launched. -/
theorem run : θ_run defs (onTc (τ := τ) (main (F := F))) ⟨m, fun _ => 0, ρ⟩ (fun r => ∀ c : Dev nD,
      r.2.mem ((c.tc : Thread nD τ).loc main_v15) = W9 m ρ c (main_v15 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨h c _ (mem_uc main_v15 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c)⟩)

end Cert.Proof.KRun

end
-- ==== Proof.Spec.lean ====
module

public import Idealize.ShloMosaic.Lib.Pointwise
public import Idealize.ShloMosaic.Lib.IndicatorCount

/-! The mathematics of the layer on plain functions of row and column numbers, over the extended reals. -/

@[expose] public section

noncomputable section

namespace Cert.Proof.Spec

open Idealize.ShloMosaic

/-- The greatest of 1000 scores. -/
def top (l : Fin 1000 → EReal) : EReal := Finset.univ.sup l

/-- A score less the greatest and less the logarithm of the sum of the exponentials. -/
def logp (l : Fin 1000 → EReal) (k : Fin 1000) : EReal :=
  l k - top l - Ideal.log (∑ j, Ideal.exp (l j - top l))

/-- The entropy of 1000 scores. -/
def entropy (l : Fin 1000 → EReal) : EReal := - ∑ k, Ideal.exp (logp l k) * logp l k

/-- `k` is the first position of the greatest score. -/
def IsFirst (l : Fin 1000 → EReal) (k : Fin 1000) : Prop :=
  (∀ j, l j ≤ l k) ∧ ∀ j, l j = l k → k ≤ j

/-- Every score is at most the greatest. -/
theorem le_top (l : Fin 1000 → EReal) (k : Fin 1000) : l k ≤ top l := Finset.le_sup (Finset.mem_univ k)

/-- The greatest score is one of the scores. -/
theorem exists_top (l : Fin 1000 → EReal) : ∃ k, l k = top l := by
  obtain ⟨k, _, h⟩ := Finset.exists_mem_eq_sup Finset.univ ⟨0, Finset.mem_univ _⟩ l
  exact ⟨k, h.symm⟩

/-- Some position is the first of the greatest score. -/
theorem exists_first (l : Fin 1000 → EReal) : ∃ k, IsFirst l k := by
  classical
  have hne : (Finset.univ.filter fun k => l k = top l).Nonempty := by
    obtain ⟨k, hk⟩ := exists_top l
    exact ⟨k, Finset.mem_filter.2 ⟨Finset.mem_univ _, hk⟩⟩
  obtain ⟨k, hk, hmin⟩ := Finset.exists_min_image _ id hne
  have hk' := (Finset.mem_filter.1 hk).2
  refine ⟨k, fun j => hk' ▸ le_top l j, fun j hj => ?_⟩
  exact hmin j (Finset.mem_filter.2 ⟨Finset.mem_univ _, hj.trans hk'⟩)

/-- The first position of the greatest score. -/
def first (l : Fin 1000 → EReal) : Fin 1000 := (exists_first l).choose

/-- `first` is the first position of the greatest score. -/
theorem first_isFirst (l : Fin 1000 → EReal) : IsFirst l (first l) := (exists_first l).choose_spec

/-- Only one position is the first of the greatest score. -/
theorem eq_first {l : Fin 1000 → EReal} {k : Fin 1000} (h : IsFirst l k) : k = first l := by
  have hf := first_isFirst l
  have he : l (first l) = l k := le_antisymm (h.1 _) (hf.1 _)
  exact le_antisymm (h.2 _ he) (hf.2 _ he.symm)

/-- The score at the first position is the greatest. -/
theorem at_first (l : Fin 1000 → EReal) : l (first l) = top l := by
  obtain ⟨k, hk⟩ := exists_top l
  exact le_antisymm (le_top l _) (hk ▸ (first_isFirst l).1 k)

/-- The first greatest entry of a one-hot row is its one. -/
theorem first_oneHot (c : Fin 1000) : first (fun k => if c = k then 1 else 0) = c := by
  refine (eq_first ⟨fun j => ?_, fun j hj => ?_⟩).symm
  · rw [if_pos rfl]; split
    · exact le_rfl
    · exact zero_le_one
  · rw [if_pos rfl] at hj
    by_contra hc
    have hne : c ≠ j := fun e => hc (e ▸ le_rfl)
    rw [if_neg hne] at hj
    exact zero_ne_one hj

/-- The number of supports that come before support `i` within its class: less entropy, or the same and listed earlier. -/
def rank (e : Fin 1256 → EReal) (y : Fin 1256 → Fin 1000) (i : Fin 1256) : ℕ := by
  classical
  exact (Finset.univ.filter fun j : Fin 1256 => y i = y j ∧ (e j < e i ∨ e j = e i ∧ j.val < i.val)).card

/-- Support `i` is kept: fewer than a hundred come before it. -/
def keep (e : Fin 1256 → EReal) (y : Fin 1256 → Fin 1000) (i : Fin 1256) : Bool :=
  (BitVec.ofNat 32 (rank e y i)).slt 100#32

/-- The length of a vector whose squares sum to `q`, at least the square root of a fixed small number. -/
def len (q : EReal) : EReal := Ideal.sqrt (max q (Ideal.ofBits .f32 396017173#32))

/-! ### Words -/

/-- The word of a small number reads back as the number. -/
theorem toInt_ofNat {k : ℕ} (h : k < 2 ^ 31) : (BitVec.ofNat 32 k).toInt = (k : ℤ) := by
  have h1 : (BitVec.ofNat 32 k).toNat = k := by
    rw [BitVec.toNat_ofNat]; exact Nat.mod_eq_of_lt (by omega)
  rw [BitVec.toInt_eq_toNat_of_lt (by rw [h1]; omega), h1]

/-- Words of small numbers are equal only when the numbers are. -/
theorem ofNat_inj {a b : ℕ} (ha : a < 2 ^ 31) (hb : b < 2 ^ 31) : BitVec.ofNat 32 a = BitVec.ofNat 32 b ↔ a = b := by
  refine ⟨fun h => ?_, fun h => h ▸ rfl⟩
  have := congrArg BitVec.toInt h
  rw [toInt_ofNat ha, toInt_ofNat hb] at this
  exact_mod_cast this

/-- A bit made of a truth value is one exactly when it holds. -/
theorem ofBool_eq_one (b : Bool) : BitVec.ofBool b = 1#1 ↔ b = true := by cases b <;> decide

/-- The equality bit. -/
theorem cmpi_eq_one (x y : BitVec 32) : IntOp.cmpi .eq x y = 1#1 ↔ x = y := by
  unfold IntOp.cmpi; rw [ofBool_eq_one]; exact beq_iff_eq

/-- The less-than bit on small numbers. -/
theorem cmpi_slt_one {a b : ℕ} (ha : a < 2 ^ 31) (hb : b < 2 ^ 31) :
    IntOp.cmpi .slt (BitVec.ofNat 32 a) (BitVec.ofNat 32 b) = 1#1 ↔ a < b := by
  unfold IntOp.cmpi
  rw [ofBool_eq_one]
  show (BitVec.ofNat 32 a).slt (BitVec.ofNat 32 b) = true ↔ _
  rw [BitVec.slt_iff_toInt_lt, toInt_ofNat ha, toInt_ofNat hb]
  exact Int.ofNat_lt

/-- Both bits. -/
theorem andi_eq_one (a b : BitVec 1) : IntOp.andi a b = 1#1 ↔ a = 1#1 ∧ b = 1#1 := by
  revert a b; unfold IntOp.andi; decide

/-- Either bit. -/
theorem ori_eq_one (a b : BitVec 1) : IntOp.ori a b = 1#1 ↔ a = 1#1 ∨ b = 1#1 := by
  revert a b; unfold IntOp.ori; decide

/-- The signed minimum reads as the minimum. -/
theorem toInt_minsi (x y : BitVec 32) : (IntOp.minsi x y).toInt = min x.toInt y.toInt := by
  unfold IntOp.minsi
  by_cases h : x.slt y = true
  · rw [if_pos h, min_eq_left (le_of_lt (BitVec.slt_iff_toInt_lt.1 h))]
  · rw [if_neg h, min_eq_right (not_lt.1 fun e => h (BitVec.slt_iff_toInt_lt.2 e))]

/-- A running signed minimum is the word `v` when `v` is met and nothing below it is. -/
theorem fold_minsi_eq (g : Fin 1000 → BitVec 32) (z v : BitVec 32) (hz : v.toInt ≤ z.toInt)
    (hle : ∀ k, v.toInt ≤ (g k).toInt) (k0 : Fin 1000) (hk : g k0 = v) :
    Finset.fold IntOp.minsi z g Finset.univ = v := by
  classical
  have key : ∀ s : Finset (Fin 1000), v.toInt ≤ (Finset.fold IntOp.minsi z g s).toInt ∧
      ∀ k ∈ s, (Finset.fold IntOp.minsi z g s).toInt ≤ (g k).toInt := by
    intro s
    induction s using Finset.induction_on with
    | empty => exact ⟨by simpa using hz, fun k hk => absurd hk (Finset.notMem_empty k)⟩
    | insert a s ha ih =>
      rw [Finset.fold_insert ha, toInt_minsi]
      refine ⟨le_min (hle a) ih.1, fun k hk => ?_⟩
      rcases Finset.mem_insert.1 hk with rfl | hk
      · exact min_le_left _ _
      · exact (min_le_right _ _).trans (ih.2 k hk)
  exact BitVec.eq_of_toInt_eq (le_antisymm (hk ▸ (key Finset.univ).2 k0 (Finset.mem_univ _)) (key Finset.univ).1)

/-- The least position holding the greatest score, by a running minimum, is the first. -/
theorem fold_first (l : Fin 1000 → EReal) :
    Finset.fold IntOp.minsi 2147483647#32 (fun x => if l x = top l then BitVec.ofNat 32 ↑x else 1000#32) Finset.univ
      = BitVec.ofNat 32 (first l) := by
  have hlt := (first l).isLt
  refine fold_minsi_eq _ _ _ ?_ (fun k => ?_) (first l) (if_pos (at_first l))
  · rw [toInt_ofNat (by omega)]
    show _ ≤ (2147483647 : ℤ)
    omega
  · rw [toInt_ofNat (by omega)]
    by_cases h : l k = top l
    · rw [if_pos h, toInt_ofNat (by omega)]
      have := (first_isFirst l).2 k (h.trans (at_first l).symm)
      exact_mod_cast this
    · rw [if_neg h]
      show _ ≤ (1000 : ℤ)
      omega

/-! ### Constants -/

/-- The word of negative infinity. -/
theorem negInf : Ideal.ofBits .f32 4286578688#32 = ⊥ := by simp [Ideal.ofBits, Ideal.ieee]

/-- A running maximum from negative infinity is the greatest. -/
theorem fold_top (l : Fin 1000 → EReal) :
    Finset.fold max (Ideal.ofBits FTy.f32 4286578688#32) l Finset.univ = top l := by
  rw [negInf]; rfl

/-- The fixed small number is above zero. -/
theorem small_pos : (0 : EReal) < Ideal.ofBits .f32 396017173#32 := by
  simp [Ideal.ofBits, Ideal.ieee, -EReal.coe_mul]

/-- A square root of a number above zero is not zero. -/
theorem sqrt_ne_zero {x : EReal} (h : 0 < x) : Ideal.sqrt x ≠ 0 := by
  induction x using EReal.rec with
  | bot => exact absurd h (not_lt.mpr bot_le)
  | top => exact EReal.top_ne_zero
  | coe r =>
    have hr : 0 < r := EReal.coe_pos.1 h
    show (if r < 0 then ⊥ else (Real.sqrt r : EReal)) ≠ 0
    rw [if_neg (not_lt.2 hr.le)]
    exact fun e => (Real.sqrt_pos.2 hr).ne' (EReal.coe_eq_zero.1 e)

/-- A length is not zero. -/
theorem len_ne_zero (q : EReal) : len q ≠ 0 := sqrt_ne_zero (lt_of_lt_of_le small_pos (le_max_right _ _))

/-- Dividing by a length is multiplying by its reciprocal. -/
theorem div_len (x q : EReal) : Ideal.div x (len q) = x * Ideal.div 1 (len q) := by
  unfold Ideal.div
  rw [if_neg (len_ne_zero q), if_neg (len_ne_zero q), one_mul]

/-- A scaled entry times its label and its mark is the entry times the mark's scale in the label's place. -/
theorem scaled (s q : EReal) (p k : Bool) :
    Ideal.div s (len q) * ((if p then 1 else 0) * (if k then 1 else 0))
      = s * (if p then (if k then Ideal.div 1 (len q) else 0) else 0) := by
  rw [div_len]
  cases p <;> cases k <;> simp

end Cert.Proof.Spec

end
-- ==== Proof.Layer.lean ====
module

public import proofs.«01_k».proof.Proof.Spec

/-! The whole layer on plain functions: what both programs compute. -/

@[expose] public section

noncomputable section

namespace Cert.Proof.Layer

open Idealize.ShloMosaic
open Cert.Proof.Spec

/-- The features of the inputs. -/
def feats (a : Fin 256 → Fin 1024 → EReal) (w : Fin 2048 → Fin 1024 → EReal) (b : Fin 2048 → EReal)
    (i : Fin 256) (j : Fin 2048) : EReal := ∑ x, a i x * w j x + b j

/-- The supports: the class rows, then the features. -/
def supp (c : Fin 1000 → Fin 2048 → EReal) (z : Fin 256 → Fin 2048 → EReal) (i : Fin 1256) (j : Fin 2048) : EReal :=
  if h : i.val < 1000 then c ⟨i.val, h⟩ j else z ⟨i.val - 1000, by omega⟩ j

/-- The scores of one row against the classes. -/
def score (c : Fin 1000 → Fin 2048 → EReal) (d : Fin 1000 → EReal) (s : Fin 2048 → EReal) (k : Fin 1000) : EReal :=
  ∑ x, s x * c k x + d k

/-- The scale of support `i` in class `k`: the reciprocal of its length when it is of that class and kept, else 0. -/
def scale (s : Fin 1256 → Fin 2048 → EReal) (e : Fin 1256 → EReal) (y : Fin 1256 → Fin 1000) (i : Fin 1256) (k : Fin 1000) :
    EReal :=
  if y i = k then (if keep e y i then Ideal.div 1 (len (∑ j, s i j * s i j)) else 0) else 0

/-- The class weights. -/
def weight (s : Fin 1256 → Fin 2048 → EReal) (e : Fin 1256 → EReal) (y : Fin 1256 → Fin 1000) (j : Fin 2048) (k : Fin 1000) :
    EReal := ∑ i, s i j * scale s e y i k

/-- The features against the weights with columns scaled to length one. -/
def project (z : Fin 256 → Fin 2048 → EReal) (w : Fin 2048 → Fin 1000 → EReal) (i : Fin 256) (k : Fin 1000) : EReal :=
  ∑ j, z i j * (w j k * Ideal.div 1 (len (∑ x, w x k * w x k)))

/-- The layer's result from the class rows, the class biases and the features. -/
def result (c : Fin 1000 → Fin 2048 → EReal) (d : Fin 1000 → EReal) (z : Fin 256 → Fin 2048 → EReal) :
    Fin 256 → Fin 1000 → EReal :=
  project z (weight (supp c z) (fun i => entropy (score c d (supp c z i))) (fun i => first (score c d (supp c z i))))

end Cert.Proof.Layer

end
-- ==== Proof.KPay.lean ====
module

public import proofs.«01_k».proof.Proof.Gen.KernelIdeal.Skeleton
public import proofs.«01_k».proof.Proof.Layer

/-! What one block of each of the kernel's five calls computes, entry by entry, over the extended reals. -/

@[expose] public section

set_option maxRecDepth 16384

noncomputable section

namespace Cert.Proof.KPay

open Cert.KernelIdeal Cert.KernelIdeal.Gen
open Idealize.ShloMosaic Idealize.ShloMosaic.Pointwise
open Cert.Proof.Spec Cert.Proof.Layer

/-- A feature. -/
theorem k0_at (v0 : Vec Ideal S256x1024 .f32) (v2 : Vec Ideal S1024x2048 .f32) (v6 : Vec Ideal S1x2048 .f32)
    (i : Fin 256) (k : Fin 2048) :
    k0_pay1 v0 v2 v6 (ix2 i k)
      = feats (fun p q => v0 (ix2 p q)) (fun p q => v2 (ix2 q p)) (fun p => v6 (ix2 0 p)) i k := by
  unfold feats
  pointwise [k0_pay1]

/-- The scores of row `i` of a block. -/
def rowScore (v0 : Vec Ideal S128x2048 .f32) (v3 : Vec Ideal S2048x1000 .f32) (v7 : Vec Ideal S1x1000 .f32) (i : Fin 128) :
    Fin 1000 → EReal :=
  score (fun p q => v3 (ix2 q p)) (fun p => v7 (ix2 0 p)) (fun q => v0 (ix2 i q))

/-- A score. -/
theorem k1_score (v0 : Vec Ideal S128x2048 .f32) (v3 : Vec Ideal S2048x1000 .f32) (v7 : Vec Ideal S1x1000 .f32)
    (i : Fin 128) (k : Fin 1000) : k1_pay3 v0 v3 v7 (ix2 i k) = rowScore v0 v3 v7 i k := by
  unfold rowScore score
  pointwise [k1_pay3, k1_pay2]

/-- The greatest score of a row. -/
theorem k1_top (v0 : Vec Ideal S128x2048 .f32) (v3 : Vec Ideal S2048x1000 .f32) (v7 : Vec Ideal S1x1000 .f32)
    (i : Fin 128) : k1_pay4 v0 v3 v7 (ix2 i 0) = top (rowScore v0 v3 v7 i) := by
  rw [← fold_top, ← funext (k1_score v0 v3 v7 i)]
  pointwise [k1_pay4]

/-- The entropy of a row. -/
theorem k1_ent (v0 : Vec Ideal S128x2048 .f32) (v3 : Vec Ideal S2048x1000 .f32) (v7 : Vec Ideal S1x1000 .f32)
    (i : Fin 128) : k1_pay5 v0 v3 v7 (ix2 i 0) = entropy (rowScore v0 v3 v7 i) := by
  unfold entropy logp
  rw [← k1_top, ← funext (k1_score v0 v3 v7 i), ← zero_add (-_), ← sub_eq_add_neg]
  pointwise [k1_pay5]

/-- The class of a row. -/
theorem k1_class (v0 : Vec Ideal S128x2048 .f32) (v3 : Vec Ideal S2048x1000 .f32) (v7 : Vec Ideal S1x1000 .f32)
    (i : Fin 128) : k1_pay6 v0 v3 v7 (ix2 i 0) = BitVec.ofNat 32 (first (rowScore v0 v3 v7 i)) := by
  rw [← fold_first, ← k1_top, ← funext (k1_score v0 v3 v7 i)]
  pointwise [k1_pay6]

/-- The sum of a row's squares. -/
theorem k1_sq (v0 : Vec Ideal S128x2048 .f32) (i : Fin 128) :
    k1_pay1 (k1_pay7 v0) (ix2 i 0) = ∑ x : Fin 2048, v0 (ix2 i x) * v0 (ix2 i x) := by
  pointwise [k1_pay1, k1_pay7, k1_pay2]

/-- The bit that says row `x` is a support before row `r` within its class. -/
def beforeBit (E : Fin 1280 → EReal) (Y : Fin 1280 → BitVec 32) (r : ℕ) (e : EReal) (y : BitVec 32) (x : Fin 1280) : BitVec 1 :=
  IntOp.andi (IntOp.andi (IntOp.cmpi .eq y (Y x)) (IntOp.cmpi .slt (BitVec.ofNat 32 ↑x) 1256#32))
    (IntOp.ori (BitVec.ofBool (decide (E x < e)))
      (IntOp.andi (BitVec.ofBool (decide (E x = e))) (IntOp.cmpi .slt (BitVec.ofNat 32 ↑x) (BitVec.ofNat 32 r))))

/-- The bit that says row `r` is a support and is kept. -/
def keepBit (E : Fin 1280 → EReal) (Y : Fin 1280 → BitVec 32) (r : ℕ) (e : EReal) (y : BitVec 32) : BitVec 1 :=
  IntOp.andi (IntOp.cmpi .slt (Finset.fold IntOp.addi 0#32 (fun x => BitVec.setWidth 32 (beforeBit E Y r e y x)) Finset.univ) 100#32)
    (IntOp.cmpi .slt (BitVec.ofNat 32 r) 1256#32)

/-- The scale of row `r` in class `k`. -/
def selAt (E : Fin 1280 → EReal) (Y : Fin 1280 → BitVec 32) (r : ℕ) (e : EReal) (y : BitVec 32) (q : EReal) (k : Fin 1000) : EReal :=
  Scalar.select (IntOp.cmpi .eq (BitVec.ofNat 32 ↑k) y) (Scalar.select (keepBit E Y r e y) (Ideal.div 1 (len q)) 0) 0

/-- The row's number as the kernel makes it. -/
theorem rowNumber (t i : ℕ) :
    IntOp.addi (Scalar.muli (BitVec.ofNat 32 t) 128#32) (BitVec.ofNat 32 i) = BitVec.ofNat 32 (t * 128 + i) := by
  show BitVec.ofNat 32 t * BitVec.ofNat 32 128 + BitVec.ofNat 32 i = _
  rw [BitVec.ofNat_add, BitVec.ofNat_mul]

/-- The kept mark of a row of a block. -/
theorem k2_keep (g : grid2.Coords) (v0 : Vec Ideal S128x1 .f32) (v2 : Vec Ideal S128x1 .i32) (v4 : Vec Ideal S1x1280 .f32)
    (v6 : Vec Ideal S1x1280 .i32) (i : Fin 128) :
    k2_pay3 g v0 v2 v4 v6 (ix2 i 0)
      = keepBit (fun x => v4 (ix2 0 x)) (fun x => v6 (ix2 0 x)) ((g 0).val * 128 + i.val) (v0 (ix2 i 0)) (v2 (ix2 i 0)) := by
  unfold keepBit beforeBit
  rw [← rowNumber]
  pointwise [k2_pay3, k2_pay2]

/-- An entry of the scales. -/
theorem k2_at (g : grid2.Coords) (v0 : Vec Ideal S128x1 .f32) (v2 : Vec Ideal S128x1 .i32) (v4 : Vec Ideal S1x1280 .f32)
    (v6 : Vec Ideal S1x1280 .i32) (v41 : Vec Ideal S128x1 .f32) (i : Fin 128) (k : Fin 1000) :
    k2_pay1 (k2_pay2 v2) (k2_pay3 g v0 v2 v4 v6) (k2_pay4 v41) (ix2 i k)
      = selAt (fun x => v4 (ix2 0 x)) (fun x => v6 (ix2 0 x)) ((g 0).val * 128 + i.val) (v0 (ix2 i 0)) (v2 (ix2 i 0))
          (v41 (ix2 i 0)) k := by
  unfold selAt len
  rw [← k2_keep]
  generalize k2_pay3 g v0 v2 v4 v6 = b
  have h2 : k2_pay2 v2 (ix2 i 0) = v2 (ix2 i 0) := by pointwise [k2_pay2]
  have h4 : k2_pay4 v41 (ix2 i 0) = v41 (ix2 i 0) := by pointwise [k2_pay4]
  rw [← h2, ← h4]
  generalize k2_pay2 v2 = u
  generalize k2_pay4 v41 = w
  pointwise [k2_pay1]

/-- An entry of a block of the weights. -/
theorem k3_at (v0 : Vec Ideal S256x1280 .f32) (v3 : Vec Ideal S1280x1000 .f32) (i : Fin 256) (k : Fin 1000) :
    k3_pay1 v0 v3 (ix2 i k) = ∑ x : Fin 1280, v0 (ix2 i x) * v3 (ix2 x k) := by
  pointwise [k3_pay1]

/-- The running sum starts at zero. -/
theorem k3_zero (k : Fin 1000) : (k3_pay2 (F := Ideal)) (ix2 0 k) = 0 := by
  pointwise [k3_pay2]

/-- One block's step of the running sum of squares. -/
theorem k3_sq (v0 : Vec Ideal S256x1280 .f32) (v3 : Vec Ideal S1280x1000 .f32) (v11 : Vec Ideal S1x1000 .f32) (k : Fin 1000) :
    k3_pay3 v0 v3 v11 (ix2 0 k)
      = v11 (ix2 0 k) + ∑ x : Fin 256, k3_pay1 v0 v3 (ix2 x k) * k3_pay1 v0 v3 (ix2 x k) := by
  pointwise [k3_pay3]

/-- An entry of the result. -/
theorem k4_at (v0 : Vec Ideal S1x1000 .f32) (v7 : Vec Ideal S256x2048 .f32) (v10 : Vec Ideal S2048x1000 .f32)
    (i : Fin 256) (k : Fin 1000) :
    k4_pay1 v0 v7 v10 (ix2 i k) = ∑ x : Fin 2048, v7 (ix2 i x) * (v10 (ix2 x k) * Ideal.div 1 (len (v0 (ix2 0 k)))) := by
  unfold len
  pointwise [k4_pay1]

end Cert.Proof.KPay

end
-- ==== Proof.Reg0.lean ====
module

public import proofs.«01_k».proof.Proof.KPay
public import proofs.«01_k».proof.Proof.Gen.KernelIdeal.Frame
public import Idealize.ShloMosaic.Lib.Pipeline.ValueKit

/-! What the first call's array (the features) and the last call's array (the result) hold. -/

@[expose] public section

set_option maxRecDepth 16384

noncomputable section

namespace Cert.Proof.Reg0

open Cert.KernelIdeal Cert.KernelIdeal.Gen
open Idealize.ShloMosaic Idealize.ShloMosaic.TcCoe Idealize.ShloMosaic.Pointwise
open Cert.Proof.Spec Cert.Proof.Layer Cert.Proof.KPay

variable (V : (c : Dev nD) → (b : Ref sig .tc) → Buf (Elt Ideal) ((c : Thread nD τ).loc b))

/-- The inputs the first call reads. -/
abbrev inputs (c : Dev nD) : FVec Ideal S256x1024 .f32 := V c main_arg0
/-- The feature matrix it reads. -/
abbrev fmat (c : Dev nD) : FVec Ideal S1024x2048 .f32 := V c main_v0
/-- The feature biases it reads. -/
abbrev fbias (c : Dev nD) : FVec Ideal S1x2048 .f32 := V c main_v2

/-- Where the blocks of the first call lie. -/
theorem idx : ∀ t : Fin grid0.N, win0_0.index t = ![0, 0] ∧ win0_1.index t = ![0, 0] ∧ win0_2.index t = ![0, 0]
    ∧ win0_3.index t = ![0, 0] := by decide +kernel

/-- The features. -/
theorem feat_array (c : Dev nD) :
    (dat0 V c).arrAt 3 cfg0.N = fun i => feats (fun p q => inputs V c (ix2 p q)) (fun p q => fmat V c (ix2 q p))
      (fun p => fbias V c (ix2 0 p)) (i 0) (i 1) := by
  refine (dat0 V c).arrAt_eq_of_covers 3 _ (by decide +kernel) fun t hf y => ?_
  obtain ⟨e0, e1, e2, e3⟩ := idx t
  blk_simp
  rw [after0_3]
  frame_out
  obtain ⟨i, k, rfl⟩ : ∃ (i : Fin 256) (k : Fin 2048), y = ix2 i k := ⟨y 0, y 1, by blk_ext⟩
  have hi : (win0_3.blk t).view.emb (ix2 i k) 0 = i := by apply Fin.ext; blk_simp [e3]
  have hk : (win0_3.blk t).view.emb (ix2 i k) 1 = k := by apply Fin.ext; blk_simp [e3]
  refine (k0_at _ _ _ i k).trans ?_
  refine Eq.trans ?_ (congrArg₂ (feats (fun p q => inputs V c (ix2 p q)) (fun p q => fmat V c (ix2 q p))
      (fun p => fbias V c (ix2 0 p))) hi.symm hk.symm)
  congr 1
  · funext p q; blk_ext [iblk0, e0]
  · funext p q; blk_ext [iblk0, e1]
  · funext p; blk_ext [iblk0, e2]

/-- The features the last call reads. -/
abbrev feat (c : Dev nD) : FVec Ideal S256x2048 .f32 := V c main_v4
/-- The weights it reads. -/
abbrev wts (c : Dev nD) : FVec Ideal S2048x1000 .f32 := V c main_v14_0
/-- The columns' sums of squares it reads. -/
abbrev sums (c : Dev nD) : FVec Ideal S1x1000 .f32 := V c main_v14_1

/-- Where the blocks of the last call lie. -/
theorem idx4 : ∀ t : Fin grid4.N, win4_0.index t = ![0, 0] ∧ win4_1.index t = ![0, 0] ∧ win4_2.index t = ![0, 0]
    ∧ win4_3.index t = ![0, 0] := by decide +kernel

/-- One entry of the result. -/
def resultAt (z : FVec Ideal S256x2048 .f32) (w : FVec Ideal S2048x1000 .f32) (q : FVec Ideal S1x1000 .f32)
    (i : Fin 256) (k : Fin 1000) : EReal :=
  ∑ x : Fin 2048, z (ix2 i x) * (w (ix2 x k) * Ideal.div 1 (len (q (ix2 0 k))))

/-- The result. -/
theorem out_array (c : Dev nD) :
    (dat4 V c).arrAt 3 cfg4.N = fun i => resultAt (feat V c) (wts V c) (sums V c) (i 0) (i 1) := by
  refine (dat4 V c).arrAt_eq_of_covers 3 _ (by decide +kernel) fun t hf y => ?_
  obtain ⟨e0, e1, e2, e3⟩ := idx4 t
  blk_simp
  rw [after4_3]
  frame_out
  obtain ⟨i, k, rfl⟩ : ∃ (i : Fin 256) (k : Fin 1000), y = ix2 i k := ⟨y 0, y 1, by blk_ext⟩
  have hi : (win4_3.blk t).view.emb (ix2 i k) 0 = i := by apply Fin.ext; blk_simp [e3]
  have hk : (win4_3.blk t).view.emb (ix2 i k) 1 = k := by apply Fin.ext; blk_simp [e3]
  refine (k4_at _ _ _ i k).trans ?_
  refine Eq.trans ?_ (congrArg₂ (resultAt (feat V c) (wts V c) (sums V c)) hi.symm hk.symm)
  unfold resultAt
  have hz : ∀ x : Fin 2048, iblk4 V c 0 t (ix2 i x) = feat V c (ix2 i x) := fun x => by blk_ext [iblk4, e0]
  have hw : ∀ x : Fin 2048, iblk4 V c 1 t (ix2 x k) = wts V c (ix2 x k) := fun x => by blk_ext [iblk4, e1]
  have hs : iblk4 V c 2 t (ix2 0 k) = sums V c (ix2 0 k) := by blk_ext [iblk4, e2]
  refine Finset.sum_congr rfl fun x _ => ?_
  exact congrArg₂ (· * ·) (hz x) (congrArg₂ (· * ·) (hw x) (congrArg (fun u => Ideal.div 1 (len u)) hs))

end Cert.Proof.Reg0

end
-- ==== Proof.Reg1.lean ====
module

public import proofs.«01_k».proof.Proof.KPay
public import proofs.«01_k».proof.Proof.Gen.KernelIdeal.Frame
public import Idealize.ShloMosaic.Lib.Pipeline.ValueKit

/-! What the second call's three arrays hold: the entropy, the class and the sum of squares of each row. -/

@[expose] public section

set_option maxRecDepth 16384

noncomputable section

namespace Cert.Proof.Reg1

open Cert.KernelIdeal Cert.KernelIdeal.Gen
open Idealize.ShloMosaic Idealize.ShloMosaic.TcCoe Idealize.ShloMosaic.Pointwise
open Cert.Proof.Spec Cert.Proof.Layer Cert.Proof.KPay

variable (V : (c : Dev nD) → (b : Ref sig .tc) → Buf (Elt Ideal) ((c : Thread nD τ).loc b))

/-- The rows the second call reads. -/
abbrev rows (c : Dev nD) : FVec Ideal S1280x2048 .f32 := V c main_v6
/-- The class matrix it reads. -/
abbrev classes (c : Dev nD) : FVec Ideal S2048x1000 .f32 := V c main_v1
/-- The class biases it reads. -/
abbrev biases (c : Dev nD) : FVec Ideal S1x1000 .f32 := V c main_v3

/-- The scores of row `r`. -/
def scoreOf (c : Dev nD) (r : Fin 1280) : Fin 1000 → EReal :=
  score (fun p q => classes V c (ix2 q p)) (fun p => biases V c (ix2 0 p)) (fun q => rows V c (ix2 r q))

/-- Where the blocks of the second call lie. -/
theorem idx : ∀ t : Fin grid1.N, win1_0.index t = ![t.val, 0] ∧ win1_1.index t = ![0, 0] ∧ win1_2.index t = ![0, 0]
    ∧ win1_3.index t = ![t.val, 0] ∧ win1_4.index t = ![t.val, 0] ∧ win1_5.index t = ![t.val, 0] := by decide +kernel

/-- A block of rows. -/
theorem blk_rows (c : Dev nD) (t : Fin cfg1.N) (i : Fin 128) (q : Fin 2048) (r : Fin 1280) (hr : r.val = t.val * 128 + i.val) :
    iblk1 V c 0 t (ix2 i q) = rows V c (ix2 r q) := by
  have e := (idx t).1
  blk_ext [iblk1, e]

/-- The class matrix whole. -/
theorem blk_classes (c : Dev nD) (t : Fin cfg1.N) (q : Fin 2048) (p : Fin 1000) :
    iblk1 V c 1 t (ix2 q p) = classes V c (ix2 q p) := by
  have e := (idx t).2.1
  blk_ext [iblk1, e]

/-- The class biases whole. -/
theorem blk_biases (c : Dev nD) (t : Fin cfg1.N) (p : Fin 1000) :
    iblk1 V c 2 t (ix2 0 p) = biases V c (ix2 0 p) := by
  have e := (idx t).2.2.1
  blk_ext [iblk1, e]

/-- The scores of a row of a block. -/
theorem blk_score (c : Dev nD) (t : Fin cfg1.N) (i : Fin 128) (r : Fin 1280) (hr : r.val = t.val * 128 + i.val) :
    rowScore (iblk1 V c 0 t) (iblk1 V c 1 t) (iblk1 V c 2 t) i = scoreOf V c r := by
  unfold rowScore scoreOf
  congr 1
  · funext p q; exact blk_classes V c t q p
  · funext p; exact blk_biases V c t p
  · funext q; exact blk_rows V c t i q r hr

/-- The entropies. -/
theorem ent_array (c : Dev nD) :
    (dat1 V c).arrAt 3 cfg1.N = fun i => entropy (scoreOf V c (i 0)) := by
  refine (dat1 V c).arrAt_eq_of_covers 3 _ (by decide +kernel) fun t hf y => ?_
  have e := (idx t).2.2.2.1
  blk_simp
  rw [after1_3]
  frame_out
  obtain ⟨i, rfl⟩ : ∃ i : Fin 128, y = ix2 i 0 := ⟨y 0, by blk_ext⟩
  refine (k1_ent _ _ _ i).trans (congrArg entropy (blk_score V c t i _ ?_))
  blk_simp [e]

/-- The classes. -/
theorem class_array (c : Dev nD) :
    (dat1 V c).arrAt 4 cfg1.N = fun i => BitVec.ofNat 32 (first (scoreOf V c (i 0))) := by
  refine (dat1 V c).arrAt_eq_of_covers 4 _ (by decide +kernel) fun t hf y => ?_
  have e := (idx t).2.2.2.2.1
  blk_simp
  rw [after1_4]
  frame_out
  obtain ⟨i, rfl⟩ : ∃ i : Fin 128, y = ix2 i 0 := ⟨y 0, by blk_ext⟩
  refine (k1_class _ _ _ i).trans (congrArg (fun l => BitVec.ofNat 32 (first l).val) (blk_score V c t i _ ?_))
  blk_simp [e]

/-- The sums of squares. -/
theorem sq_array (c : Dev nD) :
    (dat1 V c).arrAt 5 cfg1.N = fun i => ∑ q : Fin 2048, rows V c (ix2 (i 0) q) * rows V c (ix2 (i 0) q) := by
  refine (dat1 V c).arrAt_eq_of_covers 5 _ (by decide +kernel) fun t hf y => ?_
  have e := (idx t).2.2.2.2.2
  blk_simp
  rw [after1_5]
  frame_out
  obtain ⟨i, rfl⟩ : ∃ i : Fin 128, y = ix2 i 0 := ⟨y 0, by blk_ext⟩
  refine (k1_sq _ i).trans (Finset.sum_congr rfl fun q _ => ?_)
  have h := blk_rows V c t i q ((win1_5.blk t).view.emb (ix2 i 0) 0) (by blk_simp [e])
  exact congrArg₂ (· * ·) h h

end Cert.Proof.Reg1

end
-- ==== Proof.Reg2.lean ====
module

public import proofs.«01_k».proof.Proof.KPay
public import proofs.«01_k».proof.Proof.Gen.KernelIdeal.Frame
public import Idealize.ShloMosaic.Lib.Pipeline.ValueKit

/-! What the third call's array holds: the scale of each row in each class. -/

@[expose] public section

set_option maxRecDepth 16384

noncomputable section

namespace Cert.Proof.Reg2

open Cert.KernelIdeal Cert.KernelIdeal.Gen
open Idealize.ShloMosaic Idealize.ShloMosaic.TcCoe Idealize.ShloMosaic.Pointwise
open Cert.Proof.Spec Cert.Proof.Layer Cert.Proof.KPay

variable (V : (c : Dev nD) → (b : Ref sig .tc) → Buf (Elt Ideal) ((c : Thread nD τ).loc b))

/-- The entropies, as a column. -/
abbrev entC (c : Dev nD) : FVec Ideal S1280x1 .f32 := V c main_v7_0
/-- The classes, as a column. -/
abbrev clsC (c : Dev nD) : IVec S1280x1 32 := V c main_v7_1
/-- The sums of squares, as a column. -/
abbrev sqC (c : Dev nD) : FVec Ideal S1280x1 .f32 := V c main_v7_2
/-- The entropies, as a row. -/
abbrev entR (c : Dev nD) : FVec Ideal S1x1280 .f32 := V c main_v8
/-- The classes, as a row. -/
abbrev clsR (c : Dev nD) : IVec S1x1280 32 := V c main_v9

/-- Where the blocks of the third call lie, and the number of a grid point. -/
theorem idx : ∀ t : Fin grid2.N, win2_0.index t = ![t.val, 0] ∧ win2_1.index t = ![t.val, 0] ∧ win2_2.index t = ![t.val, 0]
    ∧ win2_3.index t = ![0, 0] ∧ win2_4.index t = ![0, 0] ∧ win2_5.index t = ![t.val, 0]
    ∧ (grid2.coords t 0).val = t.val := by decide +kernel

/-- One scale. -/
def scaleAt (c : Dev nD) (r : Fin 1280) (k : Fin 1000) : EReal :=
  selAt (fun x => entR V c (ix2 0 x)) (fun x => clsR V c (ix2 0 x)) r.val (entC V c (ix2 r 0)) (clsC V c (ix2 r 0))
    (sqC V c (ix2 r 0)) k

/-- The scales. -/
theorem scale_array (c : Dev nD) :
    (dat2 V c).arrAt 5 cfg2.N = fun i => scaleAt V c (i 0) (i 1) := by
  refine (dat2 V c).arrAt_eq_of_covers 5 _ (by decide +kernel) fun t hf y => ?_
  obtain ⟨e0, e1, e2, e3, e4, e5, eg⟩ := idx t
  blk_simp
  rw [after2_5]
  frame_out
  obtain ⟨i, k, rfl⟩ : ∃ (i : Fin 128) (k : Fin 1000), y = ix2 i k := ⟨y 0, y 1, by blk_ext⟩
  have hr : ((win2_5.blk t).view.emb (ix2 i k) 0).val = t.val * 128 + i.val := by blk_simp [e5]
  have hk : (win2_5.blk t).view.emb (ix2 i k) 1 = k := by apply Fin.ext; blk_simp [e5]
  refine (k2_at _ _ _ _ _ _ i k).trans ?_
  refine Eq.trans ?_ (congrArg (scaleAt V c _) hk.symm)
  generalize hR : (win2_5.blk t).view.emb (ix2 i k) 0 = r at hr
  unfold scaleAt
  have h0 : iblk2 V c 0 t (ix2 i 0) = entC V c (ix2 r 0) := by blk_ext [iblk2, e0]
  have h1 : iblk2 V c 1 t (ix2 i 0) = clsC V c (ix2 r 0) := by blk_ext [iblk2, e1]
  have h2 : iblk2 V c 2 t (ix2 i 0) = sqC V c (ix2 r 0) := by blk_ext [iblk2, e2]
  have h3 : ∀ x : Fin 1280, iblk2 V c 3 t (ix2 0 x) = entR V c (ix2 0 x) := fun x => by blk_ext [iblk2, e3]
  have h4 : ∀ x : Fin 1280, iblk2 V c 4 t (ix2 0 x) = clsR V c (ix2 0 x) := fun x => by blk_ext [iblk2, e4]
  have hg : (grid2.coords t 0).val * 128 + i.val = r.val := by rw [eg, hr]
  congr 1
  · exact funext h3
  · exact funext h4

end Cert.Proof.Reg2

end
-- ==== Proof.Reg3.lean ====
module

public import proofs.«01_k».proof.Proof.KPay
public import proofs.«01_k».proof.Proof.Gen.KernelIdeal.Frame
public import Idealize.ShloMosaic.Lib.Pipeline.ValueKit

/-! What the fourth call's arrays hold: the weights, and the sum of squares of each of their columns. -/

@[expose] public section

set_option maxRecDepth 16384

noncomputable section

namespace Cert.Proof.Reg3

open Cert.KernelIdeal Cert.KernelIdeal.Gen
open Idealize.ShloMosaic Idealize.ShloMosaic.TcCoe Idealize.ShloMosaic.Pointwise
open Cert.Proof.Spec Cert.Proof.Layer Cert.Proof.KPay

variable (V : (c : Dev nD) → (b : Ref sig .tc) → Buf (Elt Ideal) ((c : Thread nD τ).loc b))

/-- The supports, one per column. -/
abbrev cols (c : Dev nD) : FVec Ideal S2048x1280 .f32 := V c main_v13
/-- The scales. -/
abbrev scales (c : Dev nD) : FVec Ideal S1280x1000 .f32 := V c main_v10

/-- One weight. -/
def weightAt (c : Dev nD) (j : Fin 2048) (k : Fin 1000) : EReal :=
  ∑ x : Fin 1280, cols V c (ix2 j x) * scales V c (ix2 x k)

/-- Where the blocks of the fourth call lie. -/
theorem idx : ∀ t : Fin grid3.N, win3_0.index t = ![t.val, 0] ∧ win3_1.index t = ![0, 0]
    ∧ win3_2.index t = ![t.val, 0] ∧ win3_3.index t = ![0, 0] := by decide +kernel

/-- An entry of a block of weights. -/
theorem blk_weight (c : Dev nD) (t : Fin cfg3.N) (i : Fin 256) (k : Fin 1000) (j : Fin 2048) (hj : j.val = t.val * 256 + i.val) :
    k3_pay1 (iblk3 V c 0 t) (iblk3 V c 1 t) (ix2 i k) = weightAt V c j k := by
  obtain ⟨e0, e1, e2, e3⟩ := idx t
  refine (k3_at _ _ i k).trans (Finset.sum_congr rfl fun x _ => ?_)
  have h0 : iblk3 V c 0 t (ix2 i x) = cols V c (ix2 j x) := by blk_ext [iblk3, e0]
  have h1 : iblk3 V c 1 t (ix2 x k) = scales V c (ix2 x k) := by blk_ext [iblk3, e1]
  exact congrArg₂ (· * ·) h0 h1

/-- The block of weights after a point. -/
theorem out_fst (c : Dev nD) (t : Fin cfg3.N) (y : S256x1000.Idx) :
    (outsAt3 V c t.val t.isLt).1 y = k3_pay1 (iblk3 V c 0 t) (iblk3 V c 1 t) y := by
  by_cases h : t.val % 8 = 0
  · rw [outsAt3_A V c t h]; frame_out
  · rw [outsAt3_B V c t h]; frame_out

/-- The weights. -/
theorem weight_array (c : Dev nD) :
    (dat3 V c).arrAt 2 cfg3.N = fun i => weightAt V c (i 0) (i 1) := by
  refine (dat3 V c).arrAt_eq_of_covers 2 _ (by decide +kernel) fun t hf y => ?_
  have e := (idx t).2.2.1
  blk_simp
  rw [after3_2, out_fst]
  obtain ⟨i, k, rfl⟩ : ∃ (i : Fin 256) (k : Fin 1000), y = ix2 i k := ⟨y 0, y 1, by blk_ext⟩
  have hr : ((win3_2.blk t).view.emb (ix2 i k) 0).val = t.val * 256 + i.val := by blk_simp [e]
  have hk : (win3_2.blk t).view.emb (ix2 i k) 1 = k := by apply Fin.ext; blk_simp [e]
  refine Eq.trans ?_ (congrArg (weightAt V c _) hk.symm)
  exact blk_weight V c t i k _ hr

/-- One block's share of the sum of squares of column `k`. -/
def share (c : Dev nD) (t : Fin cfg3.N) (k : Fin 1000) : EReal :=
  ∑ x : Fin 256, k3_pay1 (iblk3 V c 0 t) (iblk3 V c 1 t) (ix2 x k) * k3_pay1 (iblk3 V c 0 t) (iblk3 V c 1 t) (ix2 x k)

/-- The first point leaves its share over zero. -/
theorem out_snd_first (c : Dev nD) (t : Fin cfg3.N) (h : t.val % 8 = 0) (k : Fin 1000) :
    (outsAt3 V c t.val t.isLt).2 (ix2 0 k) = 0 + share V c t k := by
  rw [outsAt3_A V c t h]; frame_out
  refine (k3_sq _ _ _ k).trans ?_
  rw [k3_zero]; rfl

/-- Every other point adds its share. -/
theorem out_snd_next (c : Dev nD) (t : Fin cfg3.N) (h : ¬ t.val % 8 = 0) (k : Fin 1000) :
    (outsAt3 V c t.val t.isLt).2 (ix2 0 k)
      = (outsAt3 V c (t.val - 1) (lt_of_le_of_lt (Nat.sub_le _ _) t.isLt)).2 (ix2 0 k) + share V c t k := by
  rw [outsAt3_B V c t h]; frame_out
  exact k3_sq _ _ _ k

/-- A share as the weights' squares. -/
theorem share_eq (c : Dev nD) (t : Fin cfg3.N) (k : Fin 1000) :
    share V c t k = ∑ x : Fin 256, (fun j : Fin 2048 => weightAt V c j k * weightAt V c j k)
      ⟨t.val * 256 + x.val, by have h : t.val < 8 := lt_of_lt_of_eq t.isLt N_3; omega⟩ := by
  refine Finset.sum_congr rfl fun x _ => ?_
  have h := blk_weight V c t x k ⟨t.val * 256 + x.val, by have h : t.val < 8 := lt_of_lt_of_eq t.isLt N_3; omega⟩ rfl
  exact congrArg₂ (· * ·) h h

/-- The columns' sums of squares. -/
theorem sq_array (c : Dev nD) :
    (dat3 V c).arrAt 3 cfg3.N = fun i => ∑ j : Fin 2048, weightAt V c j (i 1) * weightAt V c j (i 1) := by
  refine (dat3 V c).arrAt_eq_of_after_last 3 t3_7 (by decide +kernel) _ fun j => ?_
  blk_simp
  rw [after3_3]
  obtain ⟨k, rfl⟩ : ∃ k : Fin 1000, j = ix2 0 k := ⟨j 1, by blk_ext⟩
  have hs := Pipeline.eq_sum_fin_of_reset_step_apply_last (fun n h (k : Fin 1000) => ((outsAt3 V c n h).2 (ix2 0 k) : EReal)) 8
    (fun _ => 0) (fun t k => share V c t k) (out_snd_first V c) (out_snd_next V c) (le_of_eq N_3) t3_7 rfl k
  refine hs.trans ?_
  rw [zero_add]
  simp only [share_eq]
  exact Fin.sum_mul_add_congr (f := fun j : Fin 2048 => weightAt V c j k * weightAt V c j k)
    (fun s x hl => rfl) (by rw [show cfg3.N = 8 from N_3])

end Cert.Proof.Reg3

end
-- ==== Proof.Host.lean ====
module

public import proofs.«01_k».proof.Proof.Gen.KernelIdeal.Frame
public import proofs.«01_k».proof.Proof.Layer

/-! What the operations between the kernel's calls leave, entry by entry. -/

@[expose] public section

set_option maxRecDepth 16384

noncomputable section

namespace Cert.Proof.Host

open Cert.KernelIdeal Cert.KernelIdeal.Gen
open Idealize.ShloMosaic Idealize.ShloMosaic.TcCoe Idealize.ShloMosaic.Pointwise

/-- Contents of the buffers. -/
abbrev Val := Valuation τ sig (Elt Ideal)

/-- The feature matrix, transposed. -/
theorem v0_at (U : Val) (i : Fin 1024) (j : Fin 2048) :
    (StableHlo.after hostOps0 U (main_v0 : DevRef τ sig) : FVec Ideal S1024x2048 .f32) (ix2 i j)
      = (U (main_arg1 : DevRef τ sig) : FVec Ideal S2048x1024 .f32) (ix2 j i) := by
  have h : StableHlo.after hostOps0 U (main_v0 : DevRef τ sig)
      = transpose S1024x2048 [1, 0] (U (main_arg1 : DevRef τ sig) : FVec Ideal S2048x1024 .f32) transposes_S2048x1024_S1024x2048_1_0 := by
    after_results_simp; try rfl
  rw [h]
  pointwise

/-- The class matrix, transposed. -/
theorem v1_at (U : Val) (i : Fin 2048) (j : Fin 1000) :
    (StableHlo.after hostOps0 U (main_v1 : DevRef τ sig) : FVec Ideal S2048x1000 .f32) (ix2 i j)
      = (U (main_arg3 : DevRef τ sig) : FVec Ideal S1000x2048 .f32) (ix2 j i) := by
  have h : StableHlo.after hostOps0 U (main_v1 : DevRef τ sig)
      = transpose S2048x1000 [1, 0] (U (main_arg3 : DevRef τ sig) : FVec Ideal S1000x2048 .f32) transposes_S1000x2048_S2048x1000_1_0 := by
    after_results_simp; try rfl
  rw [h]
  pointwise

/-- The feature biases, as a row. -/
theorem v2_at (U : Val) (j : Fin 2048) :
    (StableHlo.after hostOps0 U (main_v2 : DevRef τ sig) : FVec Ideal S1x2048 .f32) (ix2 0 j)
      = (U (main_arg2 : DevRef τ sig) : FVec Ideal S2048 .f32) (ix1 j) := by
  have h : StableHlo.after hostOps0 U (main_v2 : DevRef τ sig)
      = shapeCast S1x2048 (U (main_arg2 : DevRef τ sig) : FVec Ideal S2048 .f32) shapeCasts_S2048_S1x2048 := by
    after_results_simp; try rfl
  rw [h]
  pointwise

/-- The class biases, as a row. -/
theorem v3_at (U : Val) (j : Fin 1000) :
    (StableHlo.after hostOps0 U (main_v3 : DevRef τ sig) : FVec Ideal S1x1000 .f32) (ix2 0 j)
      = (U (main_arg4 : DevRef τ sig) : FVec Ideal S1000 .f32) (ix1 j) := by
  have h : StableHlo.after hostOps0 U (main_v3 : DevRef τ sig)
      = shapeCast S1x1000 (U (main_arg4 : DevRef τ sig) : FVec Ideal S1000 .f32) shapeCasts_S1000_S1x1000 := by
    after_results_simp; try rfl
  rw [h]
  pointwise

/-- The class rows, the features and rows of zeros, one under another. -/
def pad (a : Fin 1000 → Fin 2048 → EReal) (z : Fin 256 → Fin 2048 → EReal) (r : Fin 1280) (j : Fin 2048) : EReal :=
  if h : r.val < 1000 then a ⟨r.val, h⟩ j else if h' : r.val - 1000 < 256 then z ⟨r.val - 1000, h'⟩ j else 0

/-- The padded rows. -/
theorem v6_at (U : Val) (r : Fin 1280) (j : Fin 2048) :
    (StableHlo.after hostOps1 U (main_v6 : DevRef τ sig) : FVec Ideal S1280x2048 .f32) (ix2 r j)
      = pad (fun p q => (U (main_arg3 : DevRef τ sig) : FVec Ideal S1000x2048 .f32) (ix2 p q))
          (fun p q => (U (main_v4 : DevRef τ sig) : FVec Ideal S256x2048 .f32) (ix2 p q)) r j := by
  have h : StableHlo.after hostOps1 U (main_v6 : DevRef τ sig)
      = concatenate S1280x2048 0 [⟨S1000x2048, (U (main_arg3 : DevRef τ sig) : FVec Ideal S1000x2048 .f32)⟩,
          ⟨S256x2048, (U (main_v4 : DevRef τ sig) : FVec Ideal S256x2048 .f32)⟩,
          ⟨S24x2048, broadcastInDim S24x2048 ![] bcast_S_S24x2048 (constant (F := Ideal) S_ .f32 0x00000000#32)⟩]
          concatenates_S1000x2048_S256x2048_S24x2048_S1280x2048_d0 := by
    after_results_simp; try rfl
  rw [h]
  unfold pad
  pointwise

/-- The entropies, as a row. -/
theorem v8_at (U : Val) (x : Fin 1280) :
    (StableHlo.after hostOps2 U (main_v8 : DevRef τ sig) : FVec Ideal S1x1280 .f32) (ix2 0 x)
      = (U (main_v7_0 : DevRef τ sig) : FVec Ideal S1280x1 .f32) (ix2 x 0) := by
  have h : StableHlo.after hostOps2 U (main_v8 : DevRef τ sig)
      = shapeCast S1x1280 (U (main_v7_0 : DevRef τ sig) : FVec Ideal S1280x1 .f32) shapeCasts_S1280x1_S1x1280 := by
    after_results_simp; try rfl
  rw [h]
  pointwise

/-- The classes, as a row. -/
theorem v9_at (U : Val) (x : Fin 1280) :
    (StableHlo.after hostOps2 U (main_v9 : DevRef τ sig) : IVec S1x1280 32) (ix2 0 x)
      = (U (main_v7_1 : DevRef τ sig) : IVec S1280x1 32) (ix2 x 0) := by
  have h : StableHlo.after hostOps2 U (main_v9 : DevRef τ sig)
      = shapeCast S1x1280 (U (main_v7_1 : DevRef τ sig) : IVec S1280x1 32) shapeCasts_S1280x1_S1x1280 := by
    after_results_simp; try rfl
  rw [h]
  pointwise

/-- The padded rows, transposed. -/
theorem v13_at (U : Val) (j : Fin 2048) (r : Fin 1280) :
    (StableHlo.after hostOps3 U (main_v13 : DevRef τ sig) : FVec Ideal S2048x1280 .f32) (ix2 j r)
      = pad (fun p q => (U (main_v1 : DevRef τ sig) : FVec Ideal S2048x1000 .f32) (ix2 q p))
          (fun p q => (U (main_v4 : DevRef τ sig) : FVec Ideal S256x2048 .f32) (ix2 p q)) r j := by
  have h : StableHlo.after hostOps3 U (main_v13 : DevRef τ sig)
      = concatenate S2048x1280 1 [⟨S2048x1000, (U (main_v1 : DevRef τ sig) : FVec Ideal S2048x1000 .f32)⟩,
          ⟨S2048x256, transpose S2048x256 [1, 0] (U (main_v4 : DevRef τ sig) : FVec Ideal S256x2048 .f32) transposes_S256x2048_S2048x256_1_0⟩,
          ⟨S2048x24, broadcastInDim S2048x24 ![] bcast_S_S2048x24 (constant (F := Ideal) S_ .f32 0x00000000#32)⟩]
          concatenates_S2048x1000_S2048x256_S2048x24_S2048x1280_d1 := by
    after_results_simp; try rfl
  rw [h]
  unfold pad
  pointwise

end Cert.Proof.Host

end
-- ==== Proof.KEq.lean ====
module

public import proofs.«01_k».proof.Proof.KPay
public import proofs.«01_k».proof.Proof.Host

/-! The kernel's 1280 padded rows against the 1256 supports: the rows past the supports add nothing. -/

@[expose] public section

noncomputable section

namespace Cert.Proof.KEq

open Idealize.ShloMosaic
open Cert.Proof.Spec Cert.Proof.Layer Cert.Proof.KPay Cert.Proof.Host

/-- A support's place among the padded rows. -/
def up : Fin 1256 ↪ Fin 1280 := ⟨fun i => ⟨i.val, by omega⟩, fun i j h => Fin.ext (congrArg (fun x : Fin 1280 => x.val) h)⟩

/-- A padded row at a support's place is the support. -/
theorem pad_up (a : Fin 1000 → Fin 2048 → EReal) (z : Fin 256 → Fin 2048 → EReal) (i : Fin 1256) (j : Fin 2048) :
    pad a z (up i) j = supp a z i j := by
  unfold Cert.Proof.Host.pad supp
  have hv : (up i).val = i.val := rfl
  by_cases h : i.val < 1000
  · rw [dif_pos h, dif_pos (hv ▸ h)]; rfl
  · have h' : i.val - 1000 < 256 := by omega
    rw [dif_neg h, dif_neg (hv ▸ h), dif_pos (hv ▸ h')]; rfl

/-- A padded row past the supports is zero. -/
theorem pad_past (a : Fin 1000 → Fin 2048 → EReal) (z : Fin 256 → Fin 2048 → EReal) (x : Fin 1280) (j : Fin 2048)
    (h : 1256 ≤ x.val) : pad a z x j = 0 := by
  unfold Cert.Proof.Host.pad
  rw [dif_neg (by omega), dif_neg (by omega)]

section Rank

variable (E : Fin 1280 → EReal) (Y : Fin 1280 → BitVec 32) (e : Fin 1256 → EReal) (y : Fin 1256 → Fin 1000)
  (hE : ∀ i, E (up i) = e i) (hY : ∀ i, Y (up i) = BitVec.ofNat 32 (y i))

include hE hY

/-- The rows marked as before support `i` are the supports before it within its class. -/
theorem beforeBit_iff (i : Fin 1256) (x : Fin 1280) :
    beforeBit E Y i.val (e i) (BitVec.ofNat 32 (y i)) x = 1#1
      ↔ ∃ j : Fin 1256, (y i = y j ∧ (e j < e i ∨ e j = e i ∧ j.val < i.val)) ∧ up j = x := by
  have hi := i.isLt
  have hx := x.isLt
  unfold beforeBit
  rw [andi_eq_one, andi_eq_one, ori_eq_one, andi_eq_one, ofBool_eq_one, ofBool_eq_one, decide_eq_true_iff,
    decide_eq_true_iff, cmpi_eq_one, cmpi_slt_one (by omega) (by omega), cmpi_slt_one (by omega) (by omega)]
  have hcls : ∀ j : Fin 1256, BitVec.ofNat 32 (y i) = BitVec.ofNat 32 (y j) ↔ y i = y j := fun j => by
    rw [ofNat_inj (by have := (y i).isLt; omega) (by have := (y j).isLt; omega)]
    exact Fin.ext_iff.symm
  constructor
  · rintro ⟨⟨h1, h2⟩, h3⟩
    obtain ⟨j, rfl⟩ : ∃ j : Fin 1256, up j = x := ⟨⟨x.val, h2⟩, rfl⟩
    rw [hY, hcls] at h1
    rw [hE] at h3
    exact ⟨j, ⟨h1, h3⟩, rfl⟩
  · rintro ⟨j, ⟨h1, h3⟩, rfl⟩
    rw [hY, hcls, hE]
    exact ⟨⟨h1, j.isLt⟩, h3⟩

/-- The count of the marked rows is the support's rank. -/
theorem count_eq (i : Fin 1256) :
    Finset.fold IntOp.addi 0#32
        (fun x => BitVec.setWidth 32 (beforeBit E Y i.val (e i) (BitVec.ofNat 32 (y i)) x)) Finset.univ
      = BitVec.ofNat 32 (rank e y i) := by
  classical
  rw [IndicatorCount.fold_addi_setWidth_eq_card]
  refine congrArg (BitVec.ofNat 32) ?_
  unfold rank
  refine (congrArg Finset.card ?_).trans (Finset.card_map up)
  ext x
  rw [Finset.mem_filter, Finset.mem_map, beforeBit_iff E Y e y hE hY]
  constructor
  · rintro ⟨_, j, h, hj⟩
    exact ⟨j, Finset.mem_filter.2 ⟨Finset.mem_univ _, h⟩, hj⟩
  · rintro ⟨j, h, hj⟩
    exact ⟨Finset.mem_univ _, j, (Finset.mem_filter.1 h).2, hj⟩

/-- The keeping bit of a support. -/
theorem keepBit_eq (i : Fin 1256) :
    keepBit E Y i.val (e i) (BitVec.ofNat 32 (y i)) = 1#1 ↔ keep e y i = true := by
  have hi := i.isLt
  unfold keepBit
  rw [andi_eq_one, count_eq E Y e y hE hY, cmpi_slt_one (a := i.val) (b := 1256) (by omega) (by omega)]
  unfold IntOp.cmpi keep
  rw [ofBool_eq_one]
  exact ⟨fun h => h.1, fun h => ⟨h, hi⟩⟩

/-- The scale the kernel makes for a support. -/
theorem selAt_eq (s : Fin 1256 → Fin 2048 → EReal) (i : Fin 1256) (k : Fin 1000) :
    selAt E Y i.val (e i) (BitVec.ofNat 32 (y i)) (∑ j, s i j * s i j) k = scale s e y i k := by
  have hk := k.isLt
  have hy := (y i).isLt
  have h1 : IntOp.cmpi .eq (BitVec.ofNat 32 k.val) (BitVec.ofNat 32 (y i)) = 1#1 ↔ y i = k := by
    rw [cmpi_eq_one, ofNat_inj (by omega) (by omega), Fin.ext_iff]
    exact eq_comm
  unfold selAt scale
  exact if_congr h1 (if_congr (keepBit_eq E Y e y hE hY i) rfl rfl) rfl

end Rank

/-- The kernel's sum over the padded rows is the class weight. -/
theorem weight_eq (a : Fin 1000 → Fin 2048 → EReal) (z : Fin 256 → Fin 2048 → EReal)
    (E : Fin 1280 → EReal) (Y : Fin 1280 → BitVec 32) (Q : Fin 1280 → EReal) (e : Fin 1256 → EReal) (y : Fin 1256 → Fin 1000)
    (hE : ∀ i, E (up i) = e i) (hY : ∀ i, Y (up i) = BitVec.ofNat 32 (y i))
    (hQ : ∀ i, Q (up i) = ∑ j, supp a z i j * supp a z i j) (j : Fin 2048) (k : Fin 1000) :
    ∑ x : Fin 1280, pad a z x j * selAt E Y x.val (E x) (Y x) (Q x) k = weight (supp a z) e y j k := by
  unfold weight
  have hterm : ∀ i : Fin 1256, pad a z (up i) j * selAt E Y (up i).val (E (up i)) (Y (up i)) (Q (up i)) k
      = supp a z i j * scale (supp a z) e y i k := fun i => by
    rw [pad_up, hE, hY, hQ, ← selAt_eq E Y e y hE hY (supp a z) i k]; rfl
  rw [← Finset.sum_congr rfl fun i _ => hterm i,
    ← Finset.sum_map Finset.univ up fun x => pad a z x j * selAt E Y x.val (E x) (Y x) (Q x) k]
  refine (Finset.sum_subset (Finset.subset_univ _) fun x _ hx => ?_).symm
  rw [pad_past a z x j, zero_mul]
  by_contra hlt
  exact hx (Finset.mem_map.2 ⟨⟨x.val, by omega⟩, Finset.mem_univ _, rfl⟩)

end Cert.Proof.KEq

end
-- ==== Proof.Chain.lean ====
module

public import proofs.«01_k».proof.Proof.Reg0
public import proofs.«01_k».proof.Proof.Reg1
public import proofs.«01_k».proof.Proof.Reg2
public import proofs.«01_k».proof.Proof.Reg3
public import proofs.«01_k».proof.Proof.KEq

/-! The kernel's five calls one after another: what its result buffer holds in the end. -/

@[expose] public section

set_option maxRecDepth 16384

noncomputable section

namespace Cert.Proof.Chain

open Cert.KernelIdeal Cert.KernelIdeal.Gen
open Idealize.ShloMosaic Idealize.ShloMosaic.TcCoe Idealize.ShloMosaic.Pointwise
open Cert.Proof.Spec Cert.Proof.Layer

variable (m : (ℓ : Loc nD τ sig) → Buf (Elt Ideal) ℓ) (ρ : Dev nD → PrngReg) (c : Dev nD)

/-- The inputs. -/
def x0 (i : Fin 256) (j : Fin 1024) : EReal := (m ((c : Thread nD τ).loc main_arg0) : FVec Ideal S256x1024 .f32) (ix2 i j)
/-- The feature matrix. -/
def x1 (i : Fin 2048) (j : Fin 1024) : EReal := (m ((c : Thread nD τ).loc main_arg1) : FVec Ideal S2048x1024 .f32) (ix2 i j)
/-- The feature biases. -/
def x2 (i : Fin 2048) : EReal := (m ((c : Thread nD τ).loc main_arg2) : FVec Ideal S2048 .f32) (ix1 i)
/-- The class rows. -/
def x3 (i : Fin 1000) (j : Fin 2048) : EReal := (m ((c : Thread nD τ).loc main_arg3) : FVec Ideal S1000x2048 .f32) (ix2 i j)
/-- The class biases. -/
def x4 (i : Fin 1000) : EReal := (m ((c : Thread nD τ).loc main_arg4) : FVec Ideal S1000 .f32) (ix1 i)

/-- The features. -/
def zed : Fin 256 → Fin 2048 → EReal := feats (x0 m c) (x1 m c) (x2 m c)

/-- The supports. -/
def sup : Fin 1256 → Fin 2048 → EReal := supp (x3 m c) (zed m c)

/-- The features after the first call. -/
theorem z2 (i : Fin 256) (k : Fin 2048) :
    (W2 m ρ c (main_v4 : DevRef τ sig) : FVec Ideal S256x2048 .f32) (ix2 i k) = zed m c i k := by
  have h := (W2_arr m ρ c 3).trans (Reg0.feat_array (V1 m ρ) c)
  refine (congrFun h (ix2 i k)).trans ?_
  show feats _ _ _ i k = feats _ _ _ i k
  congr 1
  · funext p q
    exact (Host.v0_at (W0 m ρ c) q p).trans rfl
  · funext p
    exact (Host.v2_at (W0 m ρ c) p).trans rfl

/-- The features at the third call's exit. -/
theorem z6 : W6 m ρ c (main_v4 : DevRef τ sig) = W2 m ρ c (main_v4 : DevRef τ sig) := by
  rw [W6_of m ρ c main_v4 (by decide), W5_of m ρ c main_v4 (by decide), W4_of m ρ c main_v4 (by decide),
    W3_of m ρ c main_v4 (by decide)]

/-- The features at the last call's entry. -/
theorem z8 : W8 m ρ c (main_v4 : DevRef τ sig) = W2 m ρ c (main_v4 : DevRef τ sig) := by
  rw [W8_of m ρ c main_v4 (by decide), W7_of m ρ c main_v4 (by decide), z6]

/-- The class matrix, transposed, at the second call's entry. -/
theorem c3 (q : Fin 2048) (p : Fin 1000) :
    (W3 m ρ c (main_v1 : DevRef τ sig) : FVec Ideal S2048x1000 .f32) (ix2 q p) = x3 m c p q := by
  rw [W3_of m ρ c main_v1 (by decide), W2_of m ρ c main_v1 (by decide)]
  exact Host.v1_at (W0 m ρ c) q p

/-- The class matrix, transposed, at the third call's exit. -/
theorem c6 (q : Fin 2048) (p : Fin 1000) :
    (W6 m ρ c (main_v1 : DevRef τ sig) : FVec Ideal S2048x1000 .f32) (ix2 q p) = x3 m c p q := by
  rw [W6_of m ρ c main_v1 (by decide), W5_of m ρ c main_v1 (by decide), W4_of m ρ c main_v1 (by decide)]
  exact c3 m ρ c q p

/-- The class biases at the second call's entry. -/
theorem d3 (p : Fin 1000) :
    (W3 m ρ c (main_v3 : DevRef τ sig) : FVec Ideal S1x1000 .f32) (ix2 0 p) = x4 m c p := by
  rw [W3_of m ρ c main_v3 (by decide), W2_of m ρ c main_v3 (by decide)]
  exact Host.v3_at (W0 m ρ c) p

/-- The padded rows at the second call's entry. -/
theorem p3 (r : Fin 1280) (q : Fin 2048) :
    (W3 m ρ c (main_v6 : DevRef τ sig) : FVec Ideal S1280x2048 .f32) (ix2 r q)
      = Host.pad (x3 m c) (zed m c) r q := by
  refine (Host.v6_at (W2 m ρ c) r q).trans ?_
  exact congrArg₂ (fun a z => Host.pad a z r q)
    (funext fun p => funext fun q => congrFun (W2_args m ρ c main_arg3 (by decide)) (ix2 p q))
    (funext fun p => funext fun q => z2 m ρ c p q)

/-- The scores of a support. -/
theorem score_up (i : Fin 1256) :
    Reg1.scoreOf (V3 m ρ) c (KEq.up i) = score (x3 m c) (x4 m c) (sup m c i) := by
  unfold Reg1.scoreOf
  congr 1
  · funext p q; exact c3 m ρ c q p
  · funext p; exact d3 m ρ c p
  · funext q; exact (p3 m ρ c (KEq.up i) q).trans (KEq.pad_up _ _ i q)

/-- The supports' entropies. -/
def ents (i : Fin 1256) : EReal := entropy (score (x3 m c) (x4 m c) (sup m c i))

/-- The supports' classes. -/
def cls (i : Fin 1256) : Fin 1000 := first (score (x3 m c) (x4 m c) (sup m c i))

/-- The entropies after the second call. -/
theorem e4 (i : Fin 1256) :
    (W4 m ρ c (main_v7_0 : DevRef τ sig) : FVec Ideal S1280x1 .f32) (ix2 (KEq.up i) 0) = ents m c i := by
  have h := (W4_arr m ρ c 3).trans (Reg1.ent_array (V3 m ρ) c)
  exact (congrFun h (ix2 (KEq.up i) 0)).trans (congrArg entropy (score_up m ρ c i))

/-- The classes after the second call. -/
theorem y4 (i : Fin 1256) :
    (W4 m ρ c (main_v7_1 : DevRef τ sig) : IVec S1280x1 32) (ix2 (KEq.up i) 0) = BitVec.ofNat 32 (cls m c i) := by
  have h := (W4_arr m ρ c 4).trans (Reg1.class_array (V3 m ρ) c)
  exact (congrFun h (ix2 (KEq.up i) 0)).trans (congrArg (fun l => BitVec.ofNat 32 (first l)) (score_up m ρ c i))

/-- The sums of squares after the second call. -/
theorem q4 (i : Fin 1256) :
    (W4 m ρ c (main_v7_2 : DevRef τ sig) : FVec Ideal S1280x1 .f32) (ix2 (KEq.up i) 0) = ∑ j, sup m c i j * sup m c i j := by
  have h := (W4_arr m ρ c 5).trans (Reg1.sq_array (V3 m ρ) c)
  refine (congrFun h (ix2 (KEq.up i) 0)).trans ?_
  show (∑ q : Fin 2048, Reg1.rows (V3 m ρ) c (ix2 (KEq.up i) q) * Reg1.rows (V3 m ρ) c (ix2 (KEq.up i) q) : EReal) = _
  have hp : ∀ j, (Reg1.rows (V3 m ρ) c (ix2 (KEq.up i) j) : EReal) = sup m c i j :=
    fun j => (p3 m ρ c (KEq.up i) j).trans (KEq.pad_up _ _ i j)
  exact Finset.sum_congr rfl fun j _ => congrArg₂ (· * ·) (hp j) (hp j)

/-- The entropies as the third call reads them. -/
def entCol (x : Fin 1280) : EReal := (W4 m ρ c (main_v7_0 : DevRef τ sig) : FVec Ideal S1280x1 .f32) (ix2 x 0)
/-- The classes as the third call reads them. -/
def clsCol (x : Fin 1280) : BitVec 32 := (W4 m ρ c (main_v7_1 : DevRef τ sig) : IVec S1280x1 32) (ix2 x 0)
/-- The sums of squares as the third call reads them. -/
def sqCol (x : Fin 1280) : EReal := (W4 m ρ c (main_v7_2 : DevRef τ sig) : FVec Ideal S1280x1 .f32) (ix2 x 0)

/-- The scales after the third call. -/
theorem s7 (x : Fin 1280) (k : Fin 1000) :
    (W7 m ρ c (main_v10 : DevRef τ sig) : FVec Ideal S1280x1000 .f32) (ix2 x k)
      = KPay.selAt (entCol m ρ c) (clsCol m ρ c) x.val (entCol m ρ c x) (clsCol m ρ c x) (sqCol m ρ c x) k := by
  rw [W7_of m ρ c main_v10 (by decide)]
  have h := (W6_arr m ρ c 5).trans (Reg2.scale_array (V5 m ρ) c)
  refine (congrFun h (ix2 x k)).trans ?_
  have h8 : (fun q => Reg2.entR (V5 m ρ) c (ix2 0 q)) = entCol m ρ c := funext fun q => Host.v8_at (W4 m ρ c) q
  have h9 : (fun q => Reg2.clsR (V5 m ρ) c (ix2 0 q)) = clsCol m ρ c := funext fun q => Host.v9_at (W4 m ρ c) q
  have h0 : Reg2.entC (V5 m ρ) c (ix2 x 0) = entCol m ρ c x := congrFun (W5_of m ρ c main_v7_0 (by decide)) (ix2 x 0)
  have h1 : Reg2.clsC (V5 m ρ) c (ix2 x 0) = clsCol m ρ c x := congrFun (W5_of m ρ c main_v7_1 (by decide)) (ix2 x 0)
  have h2 : Reg2.sqC (V5 m ρ) c (ix2 x 0) = sqCol m ρ c x := congrFun (W5_of m ρ c main_v7_2 (by decide)) (ix2 x 0)
  show Reg2.scaleAt (V5 m ρ) c x k = _
  unfold Reg2.scaleAt
  rw [h8, h9, h0, h1, h2]

/-- The padded rows, transposed, at the fourth call's entry. -/
theorem p7 (j : Fin 2048) (r : Fin 1280) :
    (W7 m ρ c (main_v13 : DevRef τ sig) : FVec Ideal S2048x1280 .f32) (ix2 j r)
      = Host.pad (x3 m c) (zed m c) r j := by
  refine (Host.v13_at (W6 m ρ c) j r).trans ?_
  congr 1
  · funext p q; exact c6 m ρ c q p
  · funext p q; rw [z6]; exact z2 m ρ c p q

/-- The weights the fourth call makes. -/
theorem weightAt_eq (j : Fin 2048) (k : Fin 1000) :
    Reg3.weightAt (V7 m ρ) c j k = weight (sup m c) (ents m c) (cls m c) j k := by
  refine Eq.trans ?_ (KEq.weight_eq (x3 m c) (zed m c) (entCol m ρ c) (clsCol m ρ c) (sqCol m ρ c) (ents m c) (cls m c)
    (e4 m ρ c) (y4 m ρ c) (q4 m ρ c) j k)
  exact Finset.sum_congr rfl fun x _ => congrArg₂ (· * ·) (p7 m ρ c j x) (s7 m ρ c x k)

/-- The weights after the fourth call. -/
theorem w8 (j : Fin 2048) (k : Fin 1000) :
    (W8 m ρ c (main_v14_0 : DevRef τ sig) : FVec Ideal S2048x1000 .f32) (ix2 j k)
      = weight (sup m c) (ents m c) (cls m c) j k := by
  have h := (W8_arr m ρ c 2).trans (Reg3.weight_array (V7 m ρ) c)
  exact (congrFun h (ix2 j k)).trans (weightAt_eq m ρ c j k)

/-- The columns' sums of squares after the fourth call. -/
theorem q8 (k : Fin 1000) :
    (W8 m ρ c (main_v14_1 : DevRef τ sig) : FVec Ideal S1x1000 .f32) (ix2 0 k)
      = ∑ j, weight (sup m c) (ents m c) (cls m c) j k * weight (sup m c) (ents m c) (cls m c) j k := by
  have h := (W8_arr m ρ c 3).trans (Reg3.sq_array (V7 m ρ) c)
  refine (congrFun h (ix2 0 k)).trans ?_
  show (∑ j : Fin 2048, Reg3.weightAt (V7 m ρ) c j k * Reg3.weightAt (V7 m ρ) c j k : EReal) = _
  refine Finset.sum_congr rfl fun j _ => ?_
  exact congrArg₂ (· * ·) (weightAt_eq m ρ c j k) (weightAt_eq m ρ c j k)

/-- The kernel's result. -/
theorem result_eq :
    (W9 m ρ c (main_v15 : DevRef τ sig) : FVec Ideal S256x1000 .f32)
      = fun i => result (x3 m c) (x4 m c) (zed m c) (i 0) (i 1) := by
  refine ((W9_arr m ρ c 3).trans (Reg0.out_array (V8 m ρ) c)).trans (funext fun i => ?_)
  generalize i 0 = a
  generalize i 1 = k
  have hz : ∀ x, (Reg0.feat (V8 m ρ) c (ix2 a x) : EReal) = zed m c a x :=
    fun x => (congrFun (z8 m ρ c) (ix2 a x)).trans (z2 m ρ c a x)
  have hw : ∀ x, (Reg0.wts (V8 m ρ) c (ix2 x k) : EReal) = weight (sup m c) (ents m c) (cls m c) x k :=
    fun x => w8 m ρ c x k
  have hq : (Reg0.sums (V8 m ρ) c (ix2 0 k) : EReal)
      = ∑ j, weight (sup m c) (ents m c) (cls m c) j k * weight (sup m c) (ents m c) (cls m c) j k := q8 m ρ c k
  show Reg0.resultAt (Reg0.feat (V8 m ρ) c) (Reg0.wts (V8 m ρ) c) (Reg0.sums (V8 m ρ) c) a k = _
  unfold Reg0.resultAt
  rw [hq]
  unfold result project
  exact Finset.sum_congr rfl fun x _ => congrArg₂ (· * ·) (hz x) (congrArg (· * _) (hw x))

end Cert.Proof.Chain

end
-- ==== Proof.Argmax.lean ====
module

public import proofs.«01_k».proof.ReferenceIdeal
public import proofs.«01_k».proof.Proof.Spec

/-! The reference's arg-max of a row is the first position of its greatest entry. -/

@[expose] public section

noncomputable section

namespace Cert.Proof.Argmax

open Cert.ReferenceIdeal
open Idealize.ShloMosaic Idealize.ShloMosaic.Pointwise
open Cert.Proof.Spec

/-- A pair (value, position). -/
abbrev Pair := EReal × BitVec 32

/-- `p` does not beat `q`: its value is less, or the same at no earlier a position. -/
def Under (p q : Pair) : Prop := p.1 < q.1 ∨ p.1 = q.1 ∧ q.2.toInt ≤ p.2.toInt

theorem Under.refl (p : Pair) : Under p p := Or.inr ⟨rfl, le_rfl⟩

theorem Under.trans {p q r : Pair} (h : Under p q) (g : Under q r) : Under p r := by
  rcases h with h | ⟨h, h'⟩ <;> rcases g with g | ⟨g, g'⟩
  · exact Or.inl (h.trans g)
  · exact Or.inl (g ▸ h)
  · exact Or.inl (h ▸ g)
  · exact Or.inr ⟨h.trans g, g'.trans h'⟩

/-- The reference's step on two pairs. -/
abbrev step : Pair → Pair → Pair := reducer_argmax_f32_i32 (F := Ideal)

/-- One step keeps one of its pairs, and neither beats the one kept. -/
theorem step_spec (a b : Pair) : (step a b = a ∨ step a b = b) ∧ Under a (step a b) ∧ Under b (step a b) := by
  obtain ⟨a1, a2⟩ := a
  obtain ⟨b1, b2⟩ := b
  have e : step (a1, a2) (b1, b2)
      = (Scalar.select (IntOp.ori (BitVec.ofBool (decide (b1 < a1))) (BitVec.ofBool (decide (a1 ≠ a1)))) a1 b1,
         Scalar.select (IntOp.ori (IntOp.ori (BitVec.ofBool (decide (b1 < a1))) (BitVec.ofBool (decide (a1 ≠ a1))))
           (IntOp.andi (BitVec.ofBool (decide (a1 = b1))) (IntOp.cmpi .slt a2 b2))) a2 b2) := rfl
  have hs : IntOp.cmpi .slt a2 b2 = BitVec.ofBool (decide (a2.toInt < b2.toInt)) := rfl
  rw [e, hs]
  unfold Scalar.select
  simp only [ne_eq, not_true_eq_false]
  rcases lt_trichotomy a1 b1 with h | h | h
  · have h1 : ¬ b1 < a1 := not_lt.2 h.le
    have h2 : ¬ a1 = b1 := h.ne
    simp [h1, h2, IntOp.ori, IntOp.andi, Under, h]
  · subst h
    by_cases g : a2.toInt < b2.toInt
    · simp [g, IntOp.ori, IntOp.andi, Under]; exact g.le
    · simp [g, IntOp.ori, IntOp.andi, Under]; exact not_lt.1 g
  · have h2 : ¬ a1 = b1 := h.ne'
    simp [h, h2, IntOp.ori, IntOp.andi, Under]

/-- Running the step down a list keeps one of the pairs met, and none met beats it. -/
theorem foldl_spec (L : List Pair) (a : Pair) :
    (L.foldl step a = a ∨ L.foldl step a ∈ L) ∧ Under a (L.foldl step a) ∧ ∀ p ∈ L, Under p (L.foldl step a) := by
  induction L generalizing a with
  | nil => exact ⟨Or.inl rfl, Under.refl a, fun p hp => absurd hp (List.not_mem_nil)⟩
  | cons b L ih =>
    obtain ⟨h1, h2, h3⟩ := ih (step a b)
    obtain ⟨g1, g2, g3⟩ := step_spec a b
    rw [List.foldl_cons]
    refine ⟨?_, g2.trans h2, fun p hp => ?_⟩
    · rcases h1 with h1 | h1
      · rcases g1 with g1 | g1
        · exact Or.inl (h1.trans g1)
        · exact Or.inr (by rw [h1, g1]; exact List.mem_cons_self)
      · exact Or.inr (List.mem_cons_of_mem _ h1)
    · rcases List.mem_cons.1 hp with rfl | hp
      · exact g3.trans h2
      · exact h3 p hp

/-- The reference's arg-max along the rows of an array 1000 wide: the first position of the row's greatest entry. -/
theorem argReduce_row {n : ℕ} (x : FVec Ideal ⟨2, ![n, 1000]⟩ .f32)
    (h : (⟨2, ![n, 1000]⟩ : Shape).ReducesTo [1] ⟨1, ![n]⟩) (hu : 0 < S_.numel) (i : Fin n) :
    (Host.argReduce (reducer_argmax_f32_i32 (F := Ideal)) x (iotaInDim ⟨2, ![n, 1000]⟩ 32 1) (constant S_ FTy.f32 4286578688#32)
      (constantI S_ 32 0#32) h hu (ix1 i)).2 = BitVec.ofNat 32 (first fun k => x (ix2 i k)) := by
  rw [Ideal.argReduce_eq_reduce2, Host.reduce2_eq_foldl_fiber]
  have hin : ∀ p : Pair, p ∈ Host.argReduceFiber x (iotaInDim ⟨2, ![n, 1000]⟩ 32 1) h (ix1 i)
      ↔ ∃ k : Fin 1000, p = (x (ix2 i k), BitVec.ofNat 32 k) := by
    intro p
    unfold Host.argReduceFiber
    rw [List.mem_map]
    constructor
    · rintro ⟨m, hm, rfl⟩
      obtain ⟨k, hk⟩ := (h.fiber_r2_a1 (ix1 i) _).1 (of_decide_eq_true (List.mem_filter.1 hm).2)
      exact ⟨k, by rw [← hk]; rfl⟩
    · rintro ⟨k, rfl⟩
      refine ⟨Shape.rowMajor _ (ix2 i k), List.mem_filter.2 ⟨List.mem_finRange _, ?_⟩, ?_⟩
      · rw [Equiv.symm_apply_apply]
        exact decide_eq_true ((h.fiber_r2_a1 (ix1 i) _).2 ⟨k, rfl⟩)
      · rw [Equiv.symm_apply_apply]; rfl
  have hc : (constant (F := Ideal) S_ FTy.f32 4286578688#32) (Shape.Idx.first hu) = (⊥ : EReal) := negInf
  rw [hc]
  generalize Host.argReduceFiber x (iotaInDim ⟨2, ![n, 1000]⟩ 32 1) h (ix1 i) = L at hin
  obtain ⟨h1, h2, h3⟩ := foldl_spec L ((⊥ : EReal), (constantI S_ 32 0#32) (Shape.Idx.first hu))
  change (L.foldl step _).2 = _
  generalize hr : L.foldl step ((⊥ : EReal), (constantI S_ 32 0#32) (Shape.Idx.first hu)) = r at h1 h2 h3
  have hall : ∀ k : Fin 1000, Under (x (ix2 i k), BitVec.ofNat 32 k) r := fun k => h3 _ ((hin _).2 ⟨k, rfl⟩)
  have hfirst : ∀ k : Fin 1000, r = (x (ix2 i k), BitVec.ofNat 32 k) →
      r.2 = BitVec.ofNat 32 (first fun k => x (ix2 i k)) := by
    rintro k rfl
    have hk : IsFirst (fun k => x (ix2 i k)) k := by
      refine ⟨fun j => ?_, fun j hj => ?_⟩
      · rcases hall j with g | ⟨g, _⟩
        · exact g.le
        · exact g.le
      · rcases hall j with g | ⟨_, g⟩
        · exact absurd hj g.ne
        · have hb1 := k.isLt
          have hb2 := j.isLt
          simp only at g
          rw [toInt_ofNat (by omega), toInt_ofNat (by omega)] at g
          exact_mod_cast g
    rw [← eq_first hk]
  rcases h1 with h1 | h1
  · refine hfirst 0 ?_
    rcases hall 0 with g | ⟨g, _⟩
    · rw [h1] at g; exact absurd g not_lt_bot
    · rw [h1] at g ⊢
      exact Prod.ext g.symm rfl
  · obtain ⟨k, hk⟩ := (hin r).1 h1
    exact hfirst k hk

end Cert.Proof.Argmax

end
-- ==== Proof.RefAt.lean ====
module

public import proofs.«01_k».proof.Proof.RefFns
public import proofs.«01_k».proof.Proof.Argmax
public import proofs.«01_k».proof.Proof.Layer

/-! The reference's stages at one entry, over the extended reals. -/

@[expose] public section

set_option maxRecDepth 16384

noncomputable section

namespace Cert.Proof.RefAt

open Cert.ReferenceIdeal Cert.ReferenceIdeal.Gen Cert.Proof.RefFns
open Idealize.ShloMosaic Idealize.ShloMosaic.Pointwise
open Cert.Proof.Spec Cert.Proof.Layer

/-- A score of a class row. -/
theorem logitsW_at (x : FVec Ideal S1000x2048 .f32) (y : FVec Ideal S1000 .f32) (i k : Fin 1000) :
    logitsW x y (ix2 i k) = score (fun p q => x (ix2 p q)) (fun p => y (ix1 p)) (fun q => x (ix2 i q)) k := by
  unfold score
  pointwise [logitsW]

/-- A score of an input. -/
theorem logitsZ_at (x : FVec Ideal S1000x2048 .f32) (z : FVec Ideal S256x2048 .f32) (y : FVec Ideal S1000 .f32)
    (i : Fin 256) (k : Fin 1000) :
    logitsZ x z y (ix2 i k) = score (fun p q => x (ix2 p q)) (fun p => y (ix1 p)) (fun q => z (ix2 i q)) k := by
  unfold score
  pointwise [logitsZ]

/-- A bit read as a number is one or zero. -/
theorem uitofp_bit (b : BitVec 1) : (FloatOps.uitofp (F := Ideal) FTy.f32 b : EReal) = if b = 1#1 then 1 else 0 := by
  rcases (by revert b; decide : b = 0#1 ∨ b = 1#1) with rfl | rfl
  · show (((0#1 : BitVec 1).toNat : ℝ) : EReal) = _
    simp
  · show (((1#1 : BitVec 1).toNat : ℝ) : EReal) = _
    simp

/-- The one-hot entry of two positions. -/
theorem uitofp_eq (a b : Fin 1000) :
    (FloatOps.uitofp (F := Ideal) FTy.f32 (IntOp.cmpi .eq (BitVec.ofNat 32 a.val) (BitVec.ofNat 32 b.val)) : EReal)
      = if a = b then 1 else 0 := by
  have ha := a.isLt
  have hb := b.isLt
  rw [uitofp_bit]
  exact if_congr ((cmpi_eq_one _ _).trans ((ofNat_inj (by omega) (by omega)).trans Fin.ext_iff.symm)) rfl rfl

/-- The one-hot label of a class row. -/
theorem labW_at (x : FVec Ideal S1000x1000 .f32) (i k : Fin 1000) :
    labW x (ix2 i k) = if first (fun k => x (ix2 i k)) = k then 1 else 0 := by
  rw [← uitofp_eq, ← Argmax.argReduce_row x reducesTo_S1000x1000_S1000_d1 h_S_ i]
  pointwise [labW]

/-- The one-hot label of an input. -/
theorem labZ_at (x : FVec Ideal S256x1000 .f32) (i : Fin 256) (k : Fin 1000) :
    labZ x (ix2 i k) = if first (fun k => x (ix2 i k)) = k then 1 else 0 := by
  rw [← uitofp_eq, ← Argmax.argReduce_row x reducesTo_S256x1000_S256_d1 h_S_ i]
  pointwise [labZ]

/-- A feature. -/
theorem feat_at (x : FVec Ideal S2048x1024 .f32) (y : FVec Ideal S256x1024 .f32) (z : FVec Ideal S2048 .f32)
    (i : Fin 256) (k : Fin 2048) :
    feat x y z (ix2 i k) = feats (fun p q => y (ix2 p q)) (fun p q => x (ix2 p q)) (fun p => z (ix1 p)) i k := by
  unfold feats
  pointwise [feat]

/-- A support. -/
theorem sup_at (x : FVec Ideal S1000x2048 .f32) (y : FVec Ideal S256x2048 .f32) (i : Fin 1256) (k : Fin 2048) :
    sup x y (ix2 i k) = supp (fun p q => x (ix2 p q)) (fun p q => y (ix2 p q)) i k := by
  unfold supp
  pointwise [sup]

/-- The label of a support. -/
theorem lab_at (x : FVec Ideal S1000x1000 .f32) (y : FVec Ideal S256x1000 .f32) (i : Fin 1256) (k : Fin 1000) :
    lab x y (ix2 i k) = if h : i.val < 1000 then x (ix2 ⟨i.val, h⟩ k) else y (ix2 ⟨i.val - 1000, by omega⟩ k) := by
  pointwise [lab]

/-- The entropy of a support. -/
theorem ent_at (x : FVec Ideal S1000 .f32) (y : FVec Ideal S256 .f32) (i : Fin 1256) :
    ent x y (ix1 i) = if h : i.val < 1000 then x (ix1 ⟨i.val, h⟩) else y (ix1 ⟨i.val - 1000, by omega⟩) := by
  pointwise [ent]

/-- The class of a support. -/
theorem pick_at (x : FVec Ideal S1256x1000 .f32) (i : Fin 1256) :
    pick x (ix1 i) = BitVec.ofNat 32 (first fun k => x (ix2 i k)) := by
  rw [← Argmax.argReduce_row x reducesTo_S1256x1000_S1256_d1 h_S_ i]
  pointwise [pick]

/-- The bit that says support `j` comes before support `i` within its class. -/
def beforeBit (x : Fin 1256 → BitVec 32) (y : Fin 1256 → EReal) (i j : Fin 1256) : BitVec 1 :=
  IntOp.andi (IntOp.cmpi .eq (x i) (x j)) (IntOp.ori (BitVec.ofBool (decide (y j < y i)))
    (IntOp.andi (BitVec.ofBool (decide (y j = y i))) (IntOp.cmpi .slt (BitVec.ofNat 32 ↑j) (BitVec.ofNat 32 ↑i))))

/-- That bit, as the reference counts it. -/
theorem before_at (x : IVec S1256 32) (y : FVec Ideal S1256 .f32) (i j : Fin 1256) :
    before x y (ix2 i j) = BitVec.setWidth 32 (beforeBit (fun p => x (ix1 p)) (fun p => y (ix1 p)) i j) := by
  unfold beforeBit
  pointwise [before]

/-- What that bit says. -/
theorem beforeBit_iff (c : Fin 1256 → Fin 1000) (y : Fin 1256 → EReal) (i j : Fin 1256) :
    beforeBit (fun p => BitVec.ofNat 32 (c p)) y i j = 1#1
      ↔ c i = c j ∧ (y j < y i ∨ y j = y i ∧ j.val < i.val) := by
  have h1 := i.isLt
  have h2 := j.isLt
  have h3 := (c i).isLt
  have h4 := (c j).isLt
  unfold beforeBit
  rw [andi_eq_one, ori_eq_one, andi_eq_one, cmpi_eq_one, ofBool_eq_one, ofBool_eq_one,
    cmpi_slt_one (by omega) (by omega), decide_eq_true_iff, decide_eq_true_iff,
    ofNat_inj (by omega) (by omega), Fin.ext_iff]

/-- The mark of a support: 1 when kept. -/
theorem kept_at (x : IVec S1256x1256 32) (c : Fin 1256 → Fin 1000) (y : Fin 1256 → EReal)
    (h : ∀ i j, x (ix2 i j) = BitVec.setWidth 32 (beforeBit (fun p => BitVec.ofNat 32 (c p)) y i j)) (i : Fin 1256) :
    kept (F := Ideal) x (ix1 i) = if keep y c i then (1 : EReal) else 0 := by
  have e : kept (F := Ideal) x (ix1 i) = FloatOps.uitofp (F := Ideal) FTy.f32 (IntOp.cmpi .slt
      (Finset.fold IntOp.addi 0#32 (fun l : Fin 1256 => x (ix2 i l)) Finset.univ) 100#32) := by
    pointwise [kept]
  rw [e, uitofp_bit]
  simp only [h]
  rw [IndicatorCount.fold_addi_setWidth_eq_card]
  simp only [beforeBit_iff]
  have hk : keep y c i = (BitVec.ofNat 32 (rank y c i)).slt 100#32 := rfl
  rw [hk]
  unfold IntOp.cmpi rank
  simp only [ofBool_eq_one]

/-- An entry of the scaled supports. -/
theorem unitRows_at (x : FVec Ideal S1256x2048 .f32) (i : Fin 1256) (j : Fin 2048) :
    unitRows x (ix2 i j) = Ideal.div (x (ix2 i j)) (len (∑ l : Fin 2048, x (ix2 i l) * x (ix2 i l))) := by
  unfold len
  pointwise [unitRows]

/-- An entry of the weights. -/
theorem weights_at (x : FVec Ideal S1256x2048 .f32) (y : FVec Ideal S1256 .f32) (z : FVec Ideal S1256x1000 .f32)
    (i : Fin 2048) (j : Fin 1000) :
    weights x y z (ix2 i j) = ∑ l : Fin 1256, x (ix2 l i) * (z (ix2 l j) * y (ix1 l)) := by
  pointwise [weights]

/-- An entry of the result. -/
theorem out_at (x : FVec Ideal S2048x1000 .f32) (y : FVec Ideal S256x2048 .f32) (i : Fin 256) (j : Fin 1000) :
    out x y (ix2 i j) = project (fun p q => y (ix2 p q)) (fun p q => x (ix2 p q)) i j := by
  unfold project
  simp only [← div_len]
  unfold len
  pointwise [out]

end Cert.Proof.RefAt

end
-- ==== Proof.RefEnt.lean ====
module

public import proofs.«01_k».proof.Proof.RefFns
public import proofs.«01_k».proof.Proof.Argmax
public import proofs.«01_k».proof.Proof.Layer

/-! The reference's entropies at one entry, over the extended reals. -/

@[expose] public section

set_option maxRecDepth 16384

noncomputable section

namespace Cert.Proof.RefEnt

open Cert.ReferenceIdeal Cert.ReferenceIdeal.Gen Cert.Proof.RefFns
open Idealize.ShloMosaic Idealize.ShloMosaic.Pointwise
open Cert.Proof.Spec Cert.Proof.Layer

/-- The entropy of a class row. -/
theorem entW_at (x : FVec Ideal S1000x1000 .f32) (i : Fin 1000) :
    entW x (ix1 i) = entropy fun k => x (ix2 i k) := by
  have h : max (Ideal.ofBits FTy.f32 4286578688#32)
      (Finset.fold max (Ideal.ofBits FTy.f32 4286578688#32) (fun l : Fin 1000 => x (ix2 i l)) Finset.univ)
      = top fun k => x (ix2 i k) := by
    rw [fold_top, negInf]; exact max_eq_right bot_le
  unfold entropy logp
  rw [← h]
  pointwise [entW]

/-- The entropy of an input. -/
theorem entZ_at (x : FVec Ideal S256x1000 .f32) (i : Fin 256) :
    entZ x (ix1 i) = entropy fun k => x (ix2 i k) := by
  have h : max (Ideal.ofBits FTy.f32 4286578688#32)
      (Finset.fold max (Ideal.ofBits FTy.f32 4286578688#32) (fun l : Fin 1000 => x (ix2 i l)) Finset.univ)
      = top fun k => x (ix2 i k) := by
    rw [fold_top, negInf]; exact max_eq_right bot_le
  unfold entropy logp
  rw [← h]
  pointwise [entZ]

end Cert.Proof.RefEnt

end
-- ==== Proof.RefValue.lean ====
module

public import proofs.«01_k».proof.Proof.RefAt
public import proofs.«01_k».proof.Proof.RefEnt
public import proofs.«01_k».proof.Proof.RefEnd

/-! What the reference's result holds. -/

@[expose] public section

set_option maxRecDepth 16384

noncomputable section

namespace Cert.Proof.RefValue

open Cert.ReferenceIdeal Cert.ReferenceIdeal.Gen
open Idealize.ShloMosaic Idealize.ShloMosaic.TcCoe Idealize.ShloMosaic.Pointwise
open Cert.Proof.Spec Cert.Proof.Layer Cert.Proof.RefEnd

variable (V : Valuation τ sig (Elt Ideal))

/-- The inputs. -/
def x0 (i : Fin 256) (j : Fin 1024) : EReal := (V (main_arg0 : DevRef τ sig) : FVec Ideal S256x1024 .f32) (ix2 i j)
/-- The feature matrix. -/
def x1 (i : Fin 2048) (j : Fin 1024) : EReal := (V (main_arg1 : DevRef τ sig) : FVec Ideal S2048x1024 .f32) (ix2 i j)
/-- The feature biases. -/
def x2 (i : Fin 2048) : EReal := (V (main_arg2 : DevRef τ sig) : FVec Ideal S2048 .f32) (ix1 i)
/-- The class rows. -/
def x3 (i : Fin 1000) (j : Fin 2048) : EReal := (V (main_arg3 : DevRef τ sig) : FVec Ideal S1000x2048 .f32) (ix2 i j)
/-- The class biases. -/
def x4 (i : Fin 1000) : EReal := (V (main_arg4 : DevRef τ sig) : FVec Ideal S1000 .f32) (ix1 i)

/-- The features. -/
def zed : Fin 256 → Fin 2048 → EReal := feats (x0 V) (x1 V) (x2 V)

/-- The supports. -/
def sup : Fin 1256 → Fin 2048 → EReal := supp (x3 V) (zed V)

/-- The scores of support `i`. -/
def scores (i : Fin 1256) : Fin 1000 → EReal := score (x3 V) (x4 V) (sup V i)

/-- The features the reference makes. -/
theorem v16 (i : Fin 256) (k : Fin 2048) : r_v16 V (ix2 i k) = zed V i k := RefAt.feat_at _ _ _ i k

/-- A support among the class rows. -/
theorem sup_low (i : Fin 1256) (h : i.val < 1000) : sup V i = x3 V ⟨i.val, h⟩ := by
  funext j; unfold sup supp; rw [dif_pos h]

/-- A support among the features. -/
theorem sup_high (i : Fin 1256) (h : ¬ i.val < 1000) : sup V i = zed V ⟨i.val - 1000, by omega⟩ := by
  funext j; unfold sup supp; rw [dif_neg h]

/-- The scores of a class row. -/
theorem v4 (i : Fin 1256) (h : i.val < 1000) : (fun k => r_v4 V (ix2 ⟨i.val, h⟩ k)) = scores V i := by
  funext k
  unfold scores
  rw [sup_low V i h]
  exact RefAt.logitsW_at _ _ _ k

/-- The scores of an input. -/
theorem v21 (i : Fin 1256) (h : ¬ i.val < 1000) :
    (fun k => r_v21 V (ix2 (⟨i.val - 1000, by omega⟩ : Fin 256) k)) = scores V i := by
  funext k
  unfold scores
  rw [sup_high V i h]
  refine (RefAt.logitsZ_at _ _ _ _ k).trans ?_
  exact congrArg (fun s => score (x3 V) (x4 V) s k) (funext fun q => v16 V _ q)

/-- The supports the reference makes. -/
theorem v29 (i : Fin 1256) (j : Fin 2048) : r_v29 V (ix2 i j) = sup V i j := by
  refine (RefAt.sup_at _ _ i j).trans ?_
  exact congrArg (fun z => supp (x3 V) z i j) (funext fun p => funext fun q => v16 V p q)

/-- The labels: one at the first greatest score. -/
theorem v30 (i : Fin 1256) (k : Fin 1000) : r_v30 V (ix2 i k) = if first (scores V i) = k then 1 else 0 := by
  refine (RefAt.lab_at _ _ i k).trans ?_
  by_cases h : i.val < 1000
  · rw [dif_pos h, ← v4 V i h]; exact RefAt.labW_at _ _ k
  · rw [dif_neg h, ← v21 V i h]; exact RefAt.labZ_at _ _ k

/-- The entropies. -/
theorem v31 (i : Fin 1256) : r_v31 V (ix1 i) = entropy (scores V i) := by
  refine (RefAt.ent_at _ _ i).trans ?_
  by_cases h : i.val < 1000
  · rw [dif_pos h, ← v4 V i h]; exact RefEnt.entW_at _ _
  · rw [dif_neg h, ← v21 V i h]; exact RefEnt.entZ_at _ _

/-- The classes. -/
theorem v32 (i : Fin 1256) : r_v32 V (ix1 i) = BitVec.ofNat 32 (first (scores V i)) := by
  refine (RefAt.pick_at _ i).trans ?_
  rw [funext (v30 V i), first_oneHot]

/-- The marks of the supports kept. -/
theorem v61 (i : Fin 1256) :
    r_v61 V (ix1 i) = if keep (fun i => entropy (scores V i)) (fun i => first (scores V i)) i then 1 else 0 := by
  refine RefAt.kept_at _ (fun i => first (scores V i)) (fun i => entropy (scores V i)) (fun i j => ?_) i
  refine (RefAt.before_at _ _ i j).trans ?_
  rw [funext (v32 V), funext (v31 V)]

/-- The supports with rows scaled. -/
theorem v69 (i : Fin 1256) (j : Fin 2048) :
    r_v69 V (ix2 i j) = Ideal.div (sup V i j) (len (∑ l, sup V i l * sup V i l)) := by
  refine (RefAt.unitRows_at _ i j).trans ?_
  rw [v29, Finset.sum_congr rfl fun l _ => congrArg₂ (· * ·) (v29 V i l) (v29 V i l)]

/-- The class weights. -/
theorem v74 (j : Fin 2048) (k : Fin 1000) :
    r_v74 V (ix2 j k) = weight (sup V) (fun i => entropy (scores V i)) (fun i => first (scores V i)) j k := by
  refine (RefAt.weights_at _ _ _ j k).trans (Finset.sum_congr rfl fun i _ => ?_)
  rw [v69, v30, v61]
  have h := scaled (sup V i j) (∑ l, sup V i l * sup V i l) (decide (first (scores V i) = k))
    (keep (fun i => entropy (scores V i)) (fun i => first (scores V i)) i)
  simp only [decide_eq_true_eq] at h
  exact h

/-- The reference's result. -/
theorem result_eq : r_v83 V = fun i => result (x3 V) (x4 V) (zed V) (i 0) (i 1) := by
  funext i
  obtain ⟨a, k, rfl⟩ : ∃ (a : Fin 256) (k : Fin 1000), i = ix2 a k := ⟨i 0, i 1, by funext t; fin_cases t <;> rfl⟩
  refine (RefAt.out_at _ _ a k).trans ?_
  have hz : (fun p q => r_v16 V (ix2 p q)) = zed V := funext fun p => funext fun q => v16 V p q
  have hw : (fun p q => r_v74 V (ix2 p q))
      = weight (sup V) (fun i => entropy (scores V i)) (fun i => first (scores V i)) := funext fun p => funext fun q => v74 V p q
  rw [hz, hw]
  rfl

end Cert.Proof.RefValue

end
-- ==== Proof.Equal.lean ====
module

public import proofs.«01_k».proof.Proof.Chain
public import proofs.«01_k».proof.Proof.RefValue

/-! The equation: from the same arguments the kernel's result and the reference's are the same. -/

@[expose] public section

noncomputable section

namespace Cert.Proof.Equal

open Idealize.ShloMosaic Idealize.ShloMosaic.TcCoe Idealize.ShloMosaic.Pointwise Idealize.ShloMosaic.StableHlo

/-- From memories with the same arguments, the reference's result is the kernel's. -/
theorem same (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    RefEnd.r_v83 (F := Ideal) (launchContents m' c)
      = Cert.KernelIdeal.Gen.W9 m g c (Proc.devRef .tc Cert.KernelIdeal.main_v15) := by
  have e0 : RefValue.x0 (launchContents m' c) = Chain.x0 m c := funext fun p => funext fun q => congrFun h0 (ix2 p q)
  have e1 : RefValue.x1 (launchContents m' c) = Chain.x1 m c := funext fun p => funext fun q => congrFun h1 (ix2 p q)
  have e2 : RefValue.x2 (launchContents m' c) = Chain.x2 m c := funext fun p => congrFun h2 (ix1 p)
  have e3 : RefValue.x3 (launchContents m' c) = Chain.x3 m c := funext fun p => funext fun q => congrFun h3 (ix2 p q)
  have e4 : RefValue.x4 (launchContents m' c) = Chain.x4 m c := funext fun p => congrFun h4 (ix1 p)
  refine (RefValue.result_eq (launchContents m' c)).trans (Eq.trans ?_ (Chain.result_eq m g c).symm)
  unfold RefValue.zed Chain.zed
  rw [e0, e1, e2, e3, e4]
  rfl

end Cert.Proof.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefEnd
public import proofs.«01_k».proof.Proof.KRun
public import proofs.«01_k».proof.Proof.Equal
public import Idealize.ShloMosaic.Adequacy
public import Idealize.ShloMosaic.Init

@[expose] public section

noncomputable section

namespace Cert.Proof

open Idealize.ShloMosaic Idealize.SL.Sem

/-- The kernel on words: it terminates, leaves its arguments alone and all counters at zero. -/
theorem frameKernel : Cert.quiescent_Kernel := fun m ρ _ => Cert.Kernel.Gen.frame m ρ

/-- The same of the kernel on extended reals. -/
theorem frameIdeal : Cert.quiescent_KernelIdeal := fun m ρ _ => Cert.KernelIdeal.Gen.frame m ρ

/-- The same of the reference on extended reals. -/
theorem frameReference : Cert.quiescent_ReferenceIdeal := fun m ρ _ =>
  (θ_run _ _ _).mono (fun _ h => ⟨fun c => (h.1 c).2, h.2⟩) (RefEnd.run_main m ρ)

/-- From the same arguments, on extended reals, the kernel and the reference end with the same result. -/
theorem algebraic [hK : Cert.KernelIdeal.Facts] [hR : Cert.ReferenceIdeal.Facts] : Cert.algebraic_KernelIdeal_ReferenceIdeal :=
  fun m g m' g' _ hargs =>
    ⟨fun c => Cert.KernelIdeal.Gen.W9 m g c (Proc.devRef .tc Cert.KernelIdeal.main_v15), KRun.run m g,
      (θ_run _ _ _).mono (fun _ h c => ⟨(h.1 c).1.trans
        (Equal.same m g m' c (hargs c).1 (hargs c).2.1 (hargs c).2.2.1 (hargs c).2.2.2.1 (hargs c).2.2.2.2), (h.1 c).2⟩)
        (RefEnd.run_main m' g')⟩

/-- All the claims. -/
theorem claim : Cert.Claim :=
  ⟨Cert.Kernel.Gen.facts, Cert.KernelIdeal.Gen.facts, Cert.ReferenceIdeal.Gen.facts,
    frameKernel, frameIdeal, frameReference, trivial, algebraic⟩

end Cert.Proof

end
